-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedReferenceIdeal (m : (ℓ : Loc Cert.ClippedReferenceIdeal.nD Cert.ClippedReferenceIdeal.τ Cert.ClippedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedReferenceIdeal [hClippedReferenceIdeal : Cert.ClippedReferenceIdeal.Facts] : Prop :=
  ∀ (m : (ℓ : Loc Cert.ClippedReferenceIdeal.nD Cert.ClippedReferenceIdeal.τ Cert.ClippedReferenceIdeal.sig) → Buf (Elt Ideal) ℓ) (g : Dev Cert.ClippedReferenceIdeal.nD → PrngReg), Pre_ClippedReferenceIdeal m →
    θ_run (Cert.ClippedReferenceIdeal.defs (F := Ideal)) (onTc (τ := Cert.ClippedReferenceIdeal.τ) (Cert.ClippedReferenceIdeal.main (F := Ideal))) ⟨m, fun _ => 0, g⟩ (fun r => (∀ c : Dev Cert.ClippedReferenceIdeal.nD,
      r.2.mem ((c.tc : Thread Cert.ClippedReferenceIdeal.nD Cert.ClippedReferenceIdeal.τ).loc Cert.ClippedReferenceIdeal.main_arg0) = m ((c.tc : Thread Cert.ClippedReferenceIdeal.nD Cert.ClippedReferenceIdeal.τ).loc Cert.ClippedReferenceIdeal.main_arg0)
      ∧ r.2.mem ((c.tc : Thread Cert.ClippedReferenceIdeal.nD Cert.ClippedReferenceIdeal.τ).loc Cert.ClippedReferenceIdeal.main_arg1) = m ((c.tc : Thread Cert.ClippedReferenceIdeal.nD Cert.ClippedReferenceIdeal.τ).loc Cert.ClippedReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedReferenceIdeal_on_within_clip [hKernelIdeal : Cert.KernelIdeal.Facts] [hClippedReferenceIdeal : Cert.ClippedReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedReferenceIdeal.nD Cert.ClippedReferenceIdeal.τ Cert.ClippedReferenceIdeal.sig) → Buf (Elt Ideal) ℓ) (g' : Dev Cert.ClippedReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ClippedReferenceIdeal.nD).tc : Thread Cert.ClippedReferenceIdeal.nD Cert.ClippedReferenceIdeal.τ).loc Cert.ClippedReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ClippedReferenceIdeal.nD).tc : Thread Cert.ClippedReferenceIdeal.nD Cert.ClippedReferenceIdeal.τ).loc Cert.ClippedReferenceIdeal.main_arg1))) →
    ∃ (v0 : Buf (Elt Ideal) (((0 : Dev Cert.ClippedReferenceIdeal.nD).tc : Thread Cert.ClippedReferenceIdeal.nD Cert.ClippedReferenceIdeal.τ).loc Cert.ClippedReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_within_clip.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedReferenceIdeal.defs (F := Ideal)) (onTc (τ := Cert.ClippedReferenceIdeal.τ) (Cert.ClippedReferenceIdeal.main (F := Ideal))) ⟨m', fun _ => 0, g'⟩ (fun r =>
          (∀ i : (⟨2, ![4096, 2048]⟩ : Shape).Idx, (Cert.On_within_clip.fn (F := Ideal) (m' (((0 : Dev Cert.ClippedReferenceIdeal.nD).tc : Thread Cert.ClippedReferenceIdeal.nD Cert.ClippedReferenceIdeal.τ).loc Cert.ClippedReferenceIdeal.main_arg0)) (m' (((0 : Dev Cert.ClippedReferenceIdeal.nD).tc : Thread Cert.ClippedReferenceIdeal.nD Cert.ClippedReferenceIdeal.τ).loc Cert.ClippedReferenceIdeal.main_arg1))) i = 1#1 → r.2.mem (((0 : Dev Cert.ClippedReferenceIdeal.nD).tc : Thread Cert.ClippedReferenceIdeal.nD Cert.ClippedReferenceIdeal.τ).loc Cert.ClippedReferenceIdeal.main_v6) i = v0 i)
          ∧ r.2.mem (((0 : Dev Cert.ClippedReferenceIdeal.nD).tc : Thread Cert.ClippedReferenceIdeal.nD Cert.ClippedReferenceIdeal.τ).loc Cert.ClippedReferenceIdeal.main_arg0) = m' (((0 : Dev Cert.ClippedReferenceIdeal.nD).tc : Thread Cert.ClippedReferenceIdeal.nD Cert.ClippedReferenceIdeal.τ).loc Cert.ClippedReferenceIdeal.main_arg0)
          ∧ r.2.mem (((0 : Dev Cert.ClippedReferenceIdeal.nD).tc : Thread Cert.ClippedReferenceIdeal.nD Cert.ClippedReferenceIdeal.τ).loc Cert.ClippedReferenceIdeal.main_arg1) = m' (((0 : Dev Cert.ClippedReferenceIdeal.nD).tc : Thread Cert.ClippedReferenceIdeal.nD Cert.ClippedReferenceIdeal.τ).loc Cert.ClippedReferenceIdeal.main_arg1))

def Claim : Prop :=
  ∃ (hKernel : Cert.Kernel.Facts) (hKernelIdeal : Cert.KernelIdeal.Facts) (hReferenceIdeal : Cert.ReferenceIdeal.Facts) (hClippedReferenceIdeal : Cert.ClippedReferenceIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedReferenceIdeal (hClippedReferenceIdeal := hClippedReferenceIdeal)
    ∧ preserves_Kernel_KernelIdeal
    ∧ algebraic_KernelIdeal_ReferenceIdeal (hKernelIdeal := hKernelIdeal) (hReferenceIdeal := hReferenceIdeal)
    ∧ algebraic_KernelIdeal_ClippedReferenceIdeal_on_within_clip (hKernelIdeal := hKernelIdeal) (hClippedReferenceIdeal := hClippedReferenceIdeal) (hOn_within_clip := hOn_within_clip)
-- ==== On_within_clip.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x512 : Shape := ⟨2, ![4096, 512]⟩
abbrev S512x2048 : Shape := ⟨2, ![512, 2048]⟩
abbrev S4096x2048 : Shape := ⟨2, ![4096, 2048]⟩
abbrev S4x512x1024 : Shape := ⟨3, ![4, 512, 1024]⟩
abbrev S4x4 : Shape := ⟨2, ![4, 4]⟩
abbrev S_ : Shape := ⟨0, ![]⟩
abbrev S128x512 : Shape := ⟨2, ![128, 512]⟩
abbrev S512x1024 : Shape := ⟨2, ![512, 1024]⟩
abbrev S128x1024 : Shape := ⟨2, ![128, 1024]⟩
abbrev S1x128x1024 : Shape := ⟨3, ![1, 128, 1024]⟩
abbrev S1x1 : Shape := ⟨2, ![1, 1]⟩
abbrev S512x512 : Shape := ⟨2, ![512, 512]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S4x512x1024, .f32⟩
  | .local _ .vmem, ⟨3, _⟩ => ⟨S4x512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => true
  | ⟨2, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 3 68 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v13 : BitVec 32 := Scalar.muli v2 c512_i32
  let v14 : BitVec 32 := Scalar.addi v13 c0_i32_10
  let v15 : Index := Scalar.indexCast v14
  let c0 : Index := 0#32
  ![v15.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_28 : BitVec 32 := 1#32
  let v33 : BitVec 32 := Scalar.muli v7 c1_i32_28
  let v34 : BitVec 32 := Scalar.addi c0_i32_29 v33
  v34.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_40 : BitVec 32 := 1#32
  let v43 : BitVec 32 := Scalar.muli v5 c1_i32_40
  let v44 : BitVec 32 := Scalar.addi c0_i32_41 v43
  v44.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_66 : BitVec 32 := 1#32
  let v73 : BitVec 32 := Scalar.muli v7 c1_i32_66
  let v74 : BitVec 32 := Scalar.addi c0_i32_67 v73
  v74.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_78 : BitVec 32 := 1#32
  let v83 : BitVec 32 := Scalar.muli v5 c1_i32_78
  let v84 : BitVec 32 := Scalar.addi c0_i32_79 v83
  v84.toNat
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_104 : BitVec 32 := 1#32
  let v113 : BitVec 32 := Scalar.muli v7 c1_i32_104
  let v114 : BitVec 32 := Scalar.addi c0_i32_105 v113
  v114.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_116 : BitVec 32 := 1#32
  let v123 : BitVec 32 := Scalar.muli v5 c1_i32_116
  let v124 : BitVec 32 := Scalar.addi c0_i32_117 v123
  v124.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_141 : BitVec 32 := 1#32
  let v153 : BitVec 32 := Scalar.muli v7 c1_i32_141
  let v154 : BitVec 32 := Scalar.addi c0_i32_142 v153
  v154.toNat
def k0_dev10 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_153 : BitVec 32 := 1#32
  let v163 : BitVec 32 := Scalar.muli v5 c1_i32_153
  let v164 : BitVec 32 := Scalar.addi c0_i32_154 v163
  v164.toNat
def k0_off2 (d0 : Dev nD) (c1_i32_159 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v173 : BitVec 32 := Scalar.subi v2 c1_i32_159
  let c8_i32_160 : BitVec 32 := 8#32
  let v174 : BitVec 32 := Scalar.addi v173 c8_i32_160
  let c8_i32_161 : BitVec 32 := 8#32
  let v175 : BitVec 32 := Scalar.remsi v174 c8_i32_161
  let c512_i32_165 : BitVec 32 := 512#32
  let v179 : BitVec 32 := Scalar.muli v175 c512_i32_165
  let v180 : Index := Scalar.indexCast v179
  let c0_166 : Index := 0#32
  ![v180.toNat, 0]
def k0_off3 (d0 : Dev nD) (c0_i32_162 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v176 : BitVec 32 := Scalar.addi v2 c0_i32_162
  let c1_i32_163 : BitVec 32 := 1#32
  let v177 : BitVec 32 := Scalar.addi v176 c1_i32_163
  let c8_i32_164 : BitVec 32 := 8#32
  let v178 : BitVec 32 := Scalar.remsi v177 c8_i32_164
  let c512_i32_170 : BitVec 32 := 512#32
  let v186 : BitVec 32 := Scalar.muli v178 c512_i32_170
  let v187 : Index := Scalar.indexCast v186
  let c0_171 : Index := 0#32
  ![v187.toNat, 0]
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_216 : BitVec 32 := 1#32
  let v223 : BitVec 32 := Scalar.muli v7 c1_i32_216
  let v224 : BitVec 32 := Scalar.addi c0_i32_217 v223
  v224.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_228 : BitVec 32 := 1#32
  let v233 : BitVec 32 := Scalar.muli v5 c1_i32_228
  let v234 : BitVec 32 := Scalar.addi c0_i32_229 v233
  v234.toNat
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_276 : BitVec 32 := 1#32
  let v273 : BitVec 32 := Scalar.muli v7 c1_i32_276
  let v274 : BitVec 32 := Scalar.addi c0_i32_277 v273
  v274.toNat
def k0_dev14 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_288 : BitVec 32 := 1#32
  let v283 : BitVec 32 := Scalar.muli v5 c1_i32_288
  let v284 : BitVec 32 := Scalar.addi c0_i32_289 v283
  v284.toNat
def k0_dev15 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_336 : BitVec 32 := 1#32
  let v323 : BitVec 32 := Scalar.muli v7 c1_i32_336
  let v324 : BitVec 32 := Scalar.addi c0_i32_337 v323
  v324.toNat
def k0_dev16 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_348 : BitVec 32 := 1#32
  let v333 : BitVec 32 := Scalar.muli v5 c1_i32_348
  let v334 : BitVec 32 := Scalar.addi c0_i32_349 v333
  v334.toNat
def k0_dev17 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_396 : BitVec 32 := 1#32
  let v373 : BitVec 32 := Scalar.muli v7 c1_i32_396
  let v374 : BitVec 32 := Scalar.addi c0_i32_397 v373
  v374.toNat
def k0_dev18 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_408 : BitVec 32 := 1#32
  let v383 : BitVec 32 := Scalar.muli v5 c1_i32_408
  let v384 : BitVec 32 := Scalar.addi c0_i32_409 v383
  v384.toNat
def k0_dev19 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_503 : BitVec 32 := 1#32
  let v441 : BitVec 32 := Scalar.muli v5 c1_i32_503
  let v442 : BitVec 32 := Scalar.addi c0_i32_504 v441
  v442.toNat
def k0_dev20 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_506 : BitVec 32 := 1#32
  let v443 : BitVec 32 := Scalar.muli v7 c1_i32_506
  let v444 : BitVec 32 := Scalar.addi c0_i32_507 v443
  v444.toNat
def k0_dev21 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_565 : BitVec 32 := 1#32
  let v495 : BitVec 32 := Scalar.muli v7 c1_i32_565
  let v496 : BitVec 32 := Scalar.addi c0_i32_566 v495
  v496.toNat
def k0_dev22 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_577 : BitVec 32 := 1#32
  let v505 : BitVec 32 := Scalar.muli v5 c1_i32_577
  let v506 : BitVec 32 := Scalar.addi c0_i32_578 v505
  v506.toNat
def k0_dev23 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_625 : BitVec 32 := 1#32
  let v545 : BitVec 32 := Scalar.muli v7 c1_i32_625
  let v546 : BitVec 32 := Scalar.addi c0_i32_626 v545
  v546.toNat
def k0_dev24 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_637 : BitVec 32 := 1#32
  let v555 : BitVec 32 := Scalar.muli v5 c1_i32_637
  let v556 : BitVec 32 := Scalar.addi c0_i32_638 v555
  v556.toNat
def k0_dev25 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_685 : BitVec 32 := 1#32
  let v595 : BitVec 32 := Scalar.muli v7 c1_i32_685
  let v596 : BitVec 32 := Scalar.addi c0_i32_686 v595
  v596.toNat
def k0_dev26 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_697 : BitVec 32 := 1#32
  let v605 : BitVec 32 := Scalar.muli v5 c1_i32_697
  let v606 : BitVec 32 := Scalar.addi c0_i32_698 v605
  v606.toNat
def k0_dev27 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_745 : BitVec 32 := 1#32
  let v645 : BitVec 32 := Scalar.muli v7 c1_i32_745
  let v646 : BitVec 32 := Scalar.addi c0_i32_746 v645
  v646.toNat
def k0_dev28 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_757 : BitVec 32 := 1#32
  let v655 : BitVec 32 := Scalar.muli v5 c1_i32_757
  let v656 : BitVec 32 := Scalar.addi c0_i32_758 v655
  v656.toNat
def k0_dev29 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_852 : BitVec 32 := 1#32
  let v713 : BitVec 32 := Scalar.muli v5 c1_i32_852
  let v714 : BitVec 32 := Scalar.addi c0_i32_853 v713
  v714.toNat
def k0_dev30 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_855 : BitVec 32 := 1#32
  let v715 : BitVec 32 := Scalar.muli v7 c1_i32_855
  let v716 : BitVec 32 := Scalar.addi c0_i32_856 v715
  v716.toNat
def k0_dev31 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_918 : BitVec 32 := 1#32
  let v767 : BitVec 32 := Scalar.muli v7 c1_i32_918
  let v768 : BitVec 32 := Scalar.addi c0_i32_919 v767
  v768.toNat
def k0_dev32 (d0 : Dev nD) : Nat :=
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_930 : BitVec 32 := 1#32
  let v777 : BitVec 32 := Scalar.muli v5 c1_i32_930
  let v778 : BitVec 32 := Scalar.addi c0_i32_931 v777
  v778.toNat
def k0_dev33 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_978 : BitVec 32 := 1#32
  let v817 : BitVec 32 := Scalar.muli v7 c1_i32_978
  let v818 : BitVec 32 := Scalar.addi c0_i32_979 v817
  v818.toNat
def k0_dev34 (d0 : Dev nD) : Nat :=
  let c0_i32_991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_990 : BitVec 32 := 1#32
  let v827 : BitVec 32 := Scalar.muli v5 c1_i32_990
  let v828 : BitVec 32 := Scalar.addi c0_i32_991 v827
  v828.toNat
def k0_dev35 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1038 : BitVec 32 := 1#32
  let v867 : BitVec 32 := Scalar.muli v7 c1_i32_1038
  let v868 : BitVec 32 := Scalar.addi c0_i32_1039 v867
  v868.toNat
def k0_dev36 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1050 : BitVec 32 := 1#32
  let v877 : BitVec 32 := Scalar.muli v5 c1_i32_1050
  let v878 : BitVec 32 := Scalar.addi c0_i32_1051 v877
  v878.toNat
def k0_dev37 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1098 : BitVec 32 := 1#32
  let v917 : BitVec 32 := Scalar.muli v7 c1_i32_1098
  let v918 : BitVec 32 := Scalar.addi c0_i32_1099 v917
  v918.toNat
def k0_dev38 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1110 : BitVec 32 := 1#32
  let v927 : BitVec 32 := Scalar.muli v5 c1_i32_1110
  let v928 : BitVec 32 := Scalar.addi c0_i32_1111 v927
  v928.toNat
def k0_dev39 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1205 : BitVec 32 := 1#32
  let v985 : BitVec 32 := Scalar.muli v5 c1_i32_1205
  let v986 : BitVec 32 := Scalar.addi c0_i32_1206 v985
  v986.toNat
def k0_dev40 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1208 : BitVec 32 := 1#32
  let v987 : BitVec 32 := Scalar.muli v7 c1_i32_1208
  let v988 : BitVec 32 := Scalar.addi c0_i32_1209 v987
  v988.toNat
def k0_dev41 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1271 : BitVec 32 := 1#32
  let v1039 : BitVec 32 := Scalar.muli v7 c1_i32_1271
  let v1040 : BitVec 32 := Scalar.addi c0_i32_1272 v1039
  v1040.toNat
def k0_dev42 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1283 : BitVec 32 := 1#32
  let v1049 : BitVec 32 := Scalar.muli v5 c1_i32_1283
  let v1050 : BitVec 32 := Scalar.addi c0_i32_1284 v1049
  v1050.toNat
def k0_dev43 (d0 : Dev nD) : Nat :=
  let c0_i32_1332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1331 : BitVec 32 := 1#32
  let v1089 : BitVec 32 := Scalar.muli v7 c1_i32_1331
  let v1090 : BitVec 32 := Scalar.addi c0_i32_1332 v1089
  v1090.toNat
def k0_dev44 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1343 : BitVec 32 := 1#32
  let v1099 : BitVec 32 := Scalar.muli v5 c1_i32_1343
  let v1100 : BitVec 32 := Scalar.addi c0_i32_1344 v1099
  v1100.toNat
def k0_dev45 (d0 : Dev nD) : Nat :=
  let c0_i32_1392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1391 : BitVec 32 := 1#32
  let v1139 : BitVec 32 := Scalar.muli v7 c1_i32_1391
  let v1140 : BitVec 32 := Scalar.addi c0_i32_1392 v1139
  v1140.toNat
def k0_dev46 (d0 : Dev nD) : Nat :=
  let c0_i32_1404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1403 : BitVec 32 := 1#32
  let v1149 : BitVec 32 := Scalar.muli v5 c1_i32_1403
  let v1150 : BitVec 32 := Scalar.addi c0_i32_1404 v1149
  v1150.toNat
def k0_dev47 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1451 : BitVec 32 := 1#32
  let v1189 : BitVec 32 := Scalar.muli v7 c1_i32_1451
  let v1190 : BitVec 32 := Scalar.addi c0_i32_1452 v1189
  v1190.toNat
def k0_dev48 (d0 : Dev nD) : Nat :=
  let c0_i32_1464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1463 : BitVec 32 := 1#32
  let v1199 : BitVec 32 := Scalar.muli v5 c1_i32_1463
  let v1200 : BitVec 32 := Scalar.addi c0_i32_1464 v1199
  v1200.toNat
def k0_dev49 (d0 : Dev nD) : Nat :=
  let c0_i32_1559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1558 : BitVec 32 := 1#32
  let v1257 : BitVec 32 := Scalar.muli v5 c1_i32_1558
  let v1258 : BitVec 32 := Scalar.addi c0_i32_1559 v1257
  v1258.toNat
def k0_dev50 (d0 : Dev nD) : Nat :=
  let c0_i32_1562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1561 : BitVec 32 := 1#32
  let v1259 : BitVec 32 := Scalar.muli v7 c1_i32_1561
  let v1260 : BitVec 32 := Scalar.addi c0_i32_1562 v1259
  v1260.toNat
def k0_dev51 (d0 : Dev nD) : Nat :=
  let c0_i32_1625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1624 : BitVec 32 := 1#32
  let v1311 : BitVec 32 := Scalar.muli v7 c1_i32_1624
  let v1312 : BitVec 32 := Scalar.addi c0_i32_1625 v1311
  v1312.toNat
def k0_dev52 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1636 : BitVec 32 := 1#32
  let v1321 : BitVec 32 := Scalar.muli v5 c1_i32_1636
  let v1322 : BitVec 32 := Scalar.addi c0_i32_1637 v1321
  v1322.toNat
def k0_dev53 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1684 : BitVec 32 := 1#32
  let v1361 : BitVec 32 := Scalar.muli v7 c1_i32_1684
  let v1362 : BitVec 32 := Scalar.addi c0_i32_1685 v1361
  v1362.toNat
def k0_dev54 (d0 : Dev nD) : Nat :=
  let c0_i32_1697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1696 : BitVec 32 := 1#32
  let v1371 : BitVec 32 := Scalar.muli v5 c1_i32_1696
  let v1372 : BitVec 32 := Scalar.addi c0_i32_1697 v1371
  v1372.toNat
def k0_dev55 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1744 : BitVec 32 := 1#32
  let v1411 : BitVec 32 := Scalar.muli v7 c1_i32_1744
  let v1412 : BitVec 32 := Scalar.addi c0_i32_1745 v1411
  v1412.toNat
def k0_dev56 (d0 : Dev nD) : Nat :=
  let c0_i32_1757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1756 : BitVec 32 := 1#32
  let v1421 : BitVec 32 := Scalar.muli v5 c1_i32_1756
  let v1422 : BitVec 32 := Scalar.addi c0_i32_1757 v1421
  v1422.toNat
def k0_dev57 (d0 : Dev nD) : Nat :=
  let c0_i32_1805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1804 : BitVec 32 := 1#32
  let v1461 : BitVec 32 := Scalar.muli v7 c1_i32_1804
  let v1462 : BitVec 32 := Scalar.addi c0_i32_1805 v1461
  v1462.toNat
def k0_dev58 (d0 : Dev nD) : Nat :=
  let c0_i32_1817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1816 : BitVec 32 := 1#32
  let v1471 : BitVec 32 := Scalar.muli v5 c1_i32_1816
  let v1472 : BitVec 32 := Scalar.addi c0_i32_1817 v1471
  v1472.toNat
def k0_dev59 (d0 : Dev nD) : Nat :=
  let c0_i32_1912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1911 : BitVec 32 := 1#32
  let v1529 : BitVec 32 := Scalar.muli v5 c1_i32_1911
  let v1530 : BitVec 32 := Scalar.addi c0_i32_1912 v1529
  v1530.toNat
def k0_dev60 (d0 : Dev nD) : Nat :=
  let c0_i32_1915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1914 : BitVec 32 := 1#32
  let v1531 : BitVec 32 := Scalar.muli v7 c1_i32_1914
  let v1532 : BitVec 32 := Scalar.addi c0_i32_1915 v1531
  v1532.toNat
def k0_dev61 (d0 : Dev nD) : Nat :=
  let c0_i32_1978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1977 : BitVec 32 := 1#32
  let v1583 : BitVec 32 := Scalar.muli v7 c1_i32_1977
  let v1584 : BitVec 32 := Scalar.addi c0_i32_1978 v1583
  v1584.toNat
def k0_dev62 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1989 : BitVec 32 := 1#32
  let v1593 : BitVec 32 := Scalar.muli v5 c1_i32_1989
  let v1594 : BitVec 32 := Scalar.addi c0_i32_1990 v1593
  v1594.toNat
def k0_dev63 (d0 : Dev nD) : Nat :=
  let c0_i32_2038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2037 : BitVec 32 := 1#32
  let v1633 : BitVec 32 := Scalar.muli v7 c1_i32_2037
  let v1634 : BitVec 32 := Scalar.addi c0_i32_2038 v1633
  v1634.toNat
def k0_dev64 (d0 : Dev nD) : Nat :=
  let c0_i32_2050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2049 : BitVec 32 := 1#32
  let v1643 : BitVec 32 := Scalar.muli v5 c1_i32_2049
  let v1644 : BitVec 32 := Scalar.addi c0_i32_2050 v1643
  v1644.toNat
def k0_dev65 (d0 : Dev nD) : Nat :=
  let c0_i32_2098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2097 : BitVec 32 := 1#32
  let v1683 : BitVec 32 := Scalar.muli v7 c1_i32_2097
  let v1684 : BitVec 32 := Scalar.addi c0_i32_2098 v1683
  v1684.toNat
def k0_dev66 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2109 : BitVec 32 := 1#32
  let v1693 : BitVec 32 := Scalar.muli v5 c1_i32_2109
  let v1694 : BitVec 32 := Scalar.addi c0_i32_2110 v1693
  v1694.toNat
def k0_dev67 (d0 : Dev nD) : Nat :=
  let c0_i32_2158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2157 : BitVec 32 := 1#32
  let v1733 : BitVec 32 := Scalar.muli v7 c1_i32_2157
  let v1734 : BitVec 32 := Scalar.addi c0_i32_2158 v1733
  v1734.toNat
def k0_dev68 (d0 : Dev nD) : Nat :=
  let c0_i32_2170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2169 : BitVec 32 := 1#32
  let v1743 : BitVec 32 := Scalar.muli v5 c1_i32_2169
  let v1744 : BitVec 32 := Scalar.addi c0_i32_2170 v1743
  v1744.toNat
def k0_dev69 (d0 : Dev nD) : Nat :=
  let c0_i32_2265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2264 : BitVec 32 := 1#32
  let v1801 : BitVec 32 := Scalar.muli v5 c1_i32_2264
  let v1802 : BitVec 32 := Scalar.addi c0_i32_2265 v1801
  v1802.toNat
def k0_dev70 (d0 : Dev nD) : Nat :=
  let c0_i32_2268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2267 : BitVec 32 := 1#32
  let v1803 : BitVec 32 := Scalar.muli v7 c1_i32_2267
  let v1804 : BitVec 32 := Scalar.addi c0_i32_2268 v1803
  v1804.toNat
def k0_dev71 (d0 : Dev nD) : Nat :=
  let c0_i32_2337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2336 : BitVec 32 := 1#32
  let v1871 : BitVec 32 := Scalar.muli v7 c1_i32_2336
  let v1872 : BitVec 32 := Scalar.addi c0_i32_2337 v1871
  v1872.toNat
def k0_dev72 (d0 : Dev nD) : Nat :=
  let c0_i32_2349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2348 : BitVec 32 := 1#32
  let v1881 : BitVec 32 := Scalar.muli v5 c1_i32_2348
  let v1882 : BitVec 32 := Scalar.addi c0_i32_2349 v1881
  v1882.toNat
def k0_dev73 (d0 : Dev nD) : Nat :=
  let c0_i32_2403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2402 : BitVec 32 := 1#32
  let v1937 : BitVec 32 := Scalar.muli v7 c1_i32_2402
  let v1938 : BitVec 32 := Scalar.addi c0_i32_2403 v1937
  v1938.toNat
def k0_dev74 (d0 : Dev nD) : Nat :=
  let c0_i32_2415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2414 : BitVec 32 := 1#32
  let v1947 : BitVec 32 := Scalar.muli v5 c1_i32_2414
  let v1948 : BitVec 32 := Scalar.addi c0_i32_2415 v1947
  v1948.toNat
def k0_dev75 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2468 : BitVec 32 := 1#32
  let v2003 : BitVec 32 := Scalar.muli v7 c1_i32_2468
  let v2004 : BitVec 32 := Scalar.addi c0_i32_2469 v2003
  v2004.toNat
def k0_dev76 (d0 : Dev nD) : Nat :=
  let c0_i32_2481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2480 : BitVec 32 := 1#32
  let v2013 : BitVec 32 := Scalar.muli v5 c1_i32_2480
  let v2014 : BitVec 32 := Scalar.addi c0_i32_2481 v2013
  v2014.toNat
def k0_dev77 (d0 : Dev nD) : Nat :=
  let c0_i32_2535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2534 : BitVec 32 := 1#32
  let v2069 : BitVec 32 := Scalar.muli v7 c1_i32_2534
  let v2070 : BitVec 32 := Scalar.addi c0_i32_2535 v2069
  v2070.toNat
def k0_dev78 (d0 : Dev nD) : Nat :=
  let c0_i32_2547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2546 : BitVec 32 := 1#32
  let v2079 : BitVec 32 := Scalar.muli v5 c1_i32_2546
  let v2080 : BitVec 32 := Scalar.addi c0_i32_2547 v2079
  v2080.toNat
def k0_dev79 (d0 : Dev nD) : Nat :=
  let c0_i32_2642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2641 : BitVec 32 := 1#32
  let v2137 : BitVec 32 := Scalar.muli v5 c1_i32_2641
  let v2138 : BitVec 32 := Scalar.addi c0_i32_2642 v2137
  v2138.toNat
def k0_dev80 (d0 : Dev nD) : Nat :=
  let c0_i32_2645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2644 : BitVec 32 := 1#32
  let v2139 : BitVec 32 := Scalar.muli v7 c1_i32_2644
  let v2140 : BitVec 32 := Scalar.addi c0_i32_2645 v2139
  v2140.toNat
def k0_off4 (d0 : Dev nD) (c_m1_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2141 : BitVec 32 := Scalar.subi v2 c_m1_i32
  let c8_i32_2646 : BitVec 32 := 8#32
  let v2142 : BitVec 32 := Scalar.addi v2141 c8_i32_2646
  let c8_i32_2647 : BitVec 32 := 8#32
  let v2143 : BitVec 32 := Scalar.remsi v2142 c8_i32_2647
  let c512_i32_2651 : BitVec 32 := 512#32
  let v2147 : BitVec 32 := Scalar.muli v2143 c512_i32_2651
  let c0_i32_2654 : BitVec 32 := 0#32
  ![v2147.toNat, 0]
def k0_off4_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_off5 (d0 : Dev nD) (c_m1_i32_2648 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2144 : BitVec 32 := Scalar.addi v2 c_m1_i32_2648
  let c8_i32_2649 : BitVec 32 := 8#32
  let v2145 : BitVec 32 := Scalar.addi v2144 c8_i32_2649
  let c8_i32_2650 : BitVec 32 := 8#32
  let v2146 : BitVec 32 := Scalar.remsi v2145 c8_i32_2650
  let c512_i32_2652 : BitVec 32 := 512#32
  let v2148 : BitVec 32 := Scalar.muli v2146 c512_i32_2652
  let c1024_i32 : BitVec 32 := 1024#32
  ![v2148.toNat, 1024]
def k0_off5_at (r : Fin 8) : BitVec 32 :=
  if r.val < 4 then
    if r.val < 2 then
      if r.val < 1 then
        4294967295#32
      else
        0#32
    else
      if r.val < 3 then
        1#32
      else
        2#32
  else
    if r.val < 6 then
      if r.val < 5 then
        3#32
      else
        4#32
    else
      if r.val < 7 then
        5#32
      else
        6#32
def k0_dev81 (d0 : Dev nD) : Nat :=
  let c0_i32_2695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2694 : BitVec 32 := 1#32
  let v2171 : BitVec 32 := Scalar.muli v7 c1_i32_2694
  let v2172 : BitVec 32 := Scalar.addi c0_i32_2695 v2171
  v2172.toNat
def k0_dev82 (d0 : Dev nD) : Nat :=
  let c0_i32_2707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2706 : BitVec 32 := 1#32
  let v2181 : BitVec 32 := Scalar.muli v5 c1_i32_2706
  let v2182 : BitVec 32 := Scalar.addi c0_i32_2707 v2181
  v2182.toNat
def k0_dev83 (d0 : Dev nD) : Nat :=
  let c0_i32_2743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2742 : BitVec 32 := 1#32
  let v2207 : BitVec 32 := Scalar.muli v7 c1_i32_2742
  let v2208 : BitVec 32 := Scalar.addi c0_i32_2743 v2207
  v2208.toNat
def k0_dev84 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2754 : BitVec 32 := 1#32
  let v2217 : BitVec 32 := Scalar.muli v5 c1_i32_2754
  let v2218 : BitVec 32 := Scalar.addi c0_i32_2755 v2217
  v2218.toNat
def k0_dev85 (d0 : Dev nD) : Nat :=
  let c0_i32_2791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2790 : BitVec 32 := 1#32
  let v2243 : BitVec 32 := Scalar.muli v7 c1_i32_2790
  let v2244 : BitVec 32 := Scalar.addi c0_i32_2791 v2243
  v2244.toNat
def k0_dev86 (d0 : Dev nD) : Nat :=
  let c0_i32_2803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2802 : BitVec 32 := 1#32
  let v2253 : BitVec 32 := Scalar.muli v5 c1_i32_2802
  let v2254 : BitVec 32 := Scalar.addi c0_i32_2803 v2253
  v2254.toNat
def k0_dev87 (d0 : Dev nD) : Nat :=
  let c0_i32_2839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2838 : BitVec 32 := 1#32
  let v2279 : BitVec 32 := Scalar.muli v7 c1_i32_2838
  let v2280 : BitVec 32 := Scalar.addi c0_i32_2839 v2279
  v2280.toNat
def k0_dev88 (d0 : Dev nD) : Nat :=
  let c0_i32_2851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2850 : BitVec 32 := 1#32
  let v2289 : BitVec 32 := Scalar.muli v5 c1_i32_2850
  let v2290 : BitVec 32 := Scalar.addi c0_i32_2851 v2289
  v2290.toNat
def k0_dev89 (d0 : Dev nD) : Nat :=
  let c0_i32_2954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2953 : BitVec 32 := 1#32
  let v2353 : BitVec 32 := Scalar.muli v5 c1_i32_2953
  let v2354 : BitVec 32 := Scalar.addi c0_i32_2954 v2353
  v2354.toNat
def k0_dev90 (d0 : Dev nD) : Nat :=
  let c0_i32_2957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2956 : BitVec 32 := 1#32
  let v2355 : BitVec 32 := Scalar.muli v7 c1_i32_2956
  let v2356 : BitVec 32 := Scalar.addi c0_i32_2957 v2355
  v2356.toNat
def k0_dev91 (d0 : Dev nD) : Nat :=
  let c0_i32_3009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3008 : BitVec 32 := 1#32
  let v2387 : BitVec 32 := Scalar.muli v7 c1_i32_3008
  let v2388 : BitVec 32 := Scalar.addi c0_i32_3009 v2387
  v2388.toNat
def k0_dev92 (d0 : Dev nD) : Nat :=
  let c0_i32_3021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3020 : BitVec 32 := 1#32
  let v2397 : BitVec 32 := Scalar.muli v5 c1_i32_3020
  let v2398 : BitVec 32 := Scalar.addi c0_i32_3021 v2397
  v2398.toNat
def k0_dev93 (d0 : Dev nD) : Nat :=
  let c0_i32_3057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3056 : BitVec 32 := 1#32
  let v2423 : BitVec 32 := Scalar.muli v7 c1_i32_3056
  let v2424 : BitVec 32 := Scalar.addi c0_i32_3057 v2423
  v2424.toNat
def k0_dev94 (d0 : Dev nD) : Nat :=
  let c0_i32_3069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3068 : BitVec 32 := 1#32
  let v2433 : BitVec 32 := Scalar.muli v5 c1_i32_3068
  let v2434 : BitVec 32 := Scalar.addi c0_i32_3069 v2433
  v2434.toNat
def k0_dev95 (d0 : Dev nD) : Nat :=
  let c0_i32_3105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3104 : BitVec 32 := 1#32
  let v2459 : BitVec 32 := Scalar.muli v7 c1_i32_3104
  let v2460 : BitVec 32 := Scalar.addi c0_i32_3105 v2459
  v2460.toNat
def k0_dev96 (d0 : Dev nD) : Nat :=
  let c0_i32_3117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3116 : BitVec 32 := 1#32
  let v2469 : BitVec 32 := Scalar.muli v5 c1_i32_3116
  let v2470 : BitVec 32 := Scalar.addi c0_i32_3117 v2469
  v2470.toNat
def k0_dev97 (d0 : Dev nD) : Nat :=
  let c0_i32_3153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3152 : BitVec 32 := 1#32
  let v2495 : BitVec 32 := Scalar.muli v7 c1_i32_3152
  let v2496 : BitVec 32 := Scalar.addi c0_i32_3153 v2495
  v2496.toNat
def k0_dev98 (d0 : Dev nD) : Nat :=
  let c0_i32_3165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3164 : BitVec 32 := 1#32
  let v2505 : BitVec 32 := Scalar.muli v5 c1_i32_3164
  let v2506 : BitVec 32 := Scalar.addi c0_i32_3165 v2505
  v2506.toNat
def k0_dev99 (d0 : Dev nD) : Nat :=
  let c0_i32_3268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3267 : BitVec 32 := 1#32
  let v2569 : BitVec 32 := Scalar.muli v5 c1_i32_3267
  let v2570 : BitVec 32 := Scalar.addi c0_i32_3268 v2569
  v2570.toNat
def k0_dev100 (d0 : Dev nD) : Nat :=
  let c0_i32_3271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3270 : BitVec 32 := 1#32
  let v2571 : BitVec 32 := Scalar.muli v7 c1_i32_3270
  let v2572 : BitVec 32 := Scalar.addi c0_i32_3271 v2571
  v2572.toNat
def k0_dev101 (d0 : Dev nD) : Nat :=
  let c0_i32_3323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3322 : BitVec 32 := 1#32
  let v2603 : BitVec 32 := Scalar.muli v7 c1_i32_3322
  let v2604 : BitVec 32 := Scalar.addi c0_i32_3323 v2603
  v2604.toNat
def k0_dev102 (d0 : Dev nD) : Nat :=
  let c0_i32_3335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3334 : BitVec 32 := 1#32
  let v2613 : BitVec 32 := Scalar.muli v5 c1_i32_3334
  let v2614 : BitVec 32 := Scalar.addi c0_i32_3335 v2613
  v2614.toNat
def k0_dev103 (d0 : Dev nD) : Nat :=
  let c0_i32_3371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3370 : BitVec 32 := 1#32
  let v2639 : BitVec 32 := Scalar.muli v7 c1_i32_3370
  let v2640 : BitVec 32 := Scalar.addi c0_i32_3371 v2639
  v2640.toNat
def k0_dev104 (d0 : Dev nD) : Nat :=
  let c0_i32_3383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3382 : BitVec 32 := 1#32
  let v2649 : BitVec 32 := Scalar.muli v5 c1_i32_3382
  let v2650 : BitVec 32 := Scalar.addi c0_i32_3383 v2649
  v2650.toNat
def k0_dev105 (d0 : Dev nD) : Nat :=
  let c0_i32_3419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3418 : BitVec 32 := 1#32
  let v2675 : BitVec 32 := Scalar.muli v7 c1_i32_3418
  let v2676 : BitVec 32 := Scalar.addi c0_i32_3419 v2675
  v2676.toNat
def k0_dev106 (d0 : Dev nD) : Nat :=
  let c0_i32_3431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3430 : BitVec 32 := 1#32
  let v2685 : BitVec 32 := Scalar.muli v5 c1_i32_3430
  let v2686 : BitVec 32 := Scalar.addi c0_i32_3431 v2685
  v2686.toNat
def k0_dev107 (d0 : Dev nD) : Nat :=
  let c0_i32_3467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3466 : BitVec 32 := 1#32
  let v2711 : BitVec 32 := Scalar.muli v7 c1_i32_3466
  let v2712 : BitVec 32 := Scalar.addi c0_i32_3467 v2711
  v2712.toNat
def k0_dev108 (d0 : Dev nD) : Nat :=
  let c0_i32_3479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3478 : BitVec 32 := 1#32
  let v2721 : BitVec 32 := Scalar.muli v5 c1_i32_3478
  let v2722 : BitVec 32 := Scalar.addi c0_i32_3479 v2721
  v2722.toNat
def k0_dev109 (d0 : Dev nD) : Nat :=
  let c0_i32_3582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3581 : BitVec 32 := 1#32
  let v2785 : BitVec 32 := Scalar.muli v5 c1_i32_3581
  let v2786 : BitVec 32 := Scalar.addi c0_i32_3582 v2785
  v2786.toNat
def k0_dev110 (d0 : Dev nD) : Nat :=
  let c0_i32_3585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3584 : BitVec 32 := 1#32
  let v2787 : BitVec 32 := Scalar.muli v7 c1_i32_3584
  let v2788 : BitVec 32 := Scalar.addi c0_i32_3585 v2787
  v2788.toNat
def k0_dev111 (d0 : Dev nD) : Nat :=
  let c0_i32_3637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3636 : BitVec 32 := 1#32
  let v2819 : BitVec 32 := Scalar.muli v7 c1_i32_3636
  let v2820 : BitVec 32 := Scalar.addi c0_i32_3637 v2819
  v2820.toNat
def k0_dev112 (d0 : Dev nD) : Nat :=
  let c0_i32_3649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3648 : BitVec 32 := 1#32
  let v2829 : BitVec 32 := Scalar.muli v5 c1_i32_3648
  let v2830 : BitVec 32 := Scalar.addi c0_i32_3649 v2829
  v2830.toNat
def k0_dev113 (d0 : Dev nD) : Nat :=
  let c0_i32_3685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3684 : BitVec 32 := 1#32
  let v2855 : BitVec 32 := Scalar.muli v7 c1_i32_3684
  let v2856 : BitVec 32 := Scalar.addi c0_i32_3685 v2855
  v2856.toNat
def k0_dev114 (d0 : Dev nD) : Nat :=
  let c0_i32_3697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3696 : BitVec 32 := 1#32
  let v2865 : BitVec 32 := Scalar.muli v5 c1_i32_3696
  let v2866 : BitVec 32 := Scalar.addi c0_i32_3697 v2865
  v2866.toNat
def k0_dev115 (d0 : Dev nD) : Nat :=
  let c0_i32_3733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3732 : BitVec 32 := 1#32
  let v2891 : BitVec 32 := Scalar.muli v7 c1_i32_3732
  let v2892 : BitVec 32 := Scalar.addi c0_i32_3733 v2891
  v2892.toNat
def k0_dev116 (d0 : Dev nD) : Nat :=
  let c0_i32_3745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3744 : BitVec 32 := 1#32
  let v2901 : BitVec 32 := Scalar.muli v5 c1_i32_3744
  let v2902 : BitVec 32 := Scalar.addi c0_i32_3745 v2901
  v2902.toNat
def k0_dev117 (d0 : Dev nD) : Nat :=
  let c0_i32_3781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3780 : BitVec 32 := 1#32
  let v2927 : BitVec 32 := Scalar.muli v7 c1_i32_3780
  let v2928 : BitVec 32 := Scalar.addi c0_i32_3781 v2927
  v2928.toNat
def k0_dev118 (d0 : Dev nD) : Nat :=
  let c0_i32_3793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3792 : BitVec 32 := 1#32
  let v2937 : BitVec 32 := Scalar.muli v5 c1_i32_3792
  let v2938 : BitVec 32 := Scalar.addi c0_i32_3793 v2937
  v2938.toNat
def k0_dev119 (d0 : Dev nD) : Nat :=
  let c0_i32_3896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3895 : BitVec 32 := 1#32
  let v3001 : BitVec 32 := Scalar.muli v5 c1_i32_3895
  let v3002 : BitVec 32 := Scalar.addi c0_i32_3896 v3001
  v3002.toNat
def k0_dev120 (d0 : Dev nD) : Nat :=
  let c0_i32_3899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3898 : BitVec 32 := 1#32
  let v3003 : BitVec 32 := Scalar.muli v7 c1_i32_3898
  let v3004 : BitVec 32 := Scalar.addi c0_i32_3899 v3003
  v3004.toNat
def k0_dev121 (d0 : Dev nD) : Nat :=
  let c0_i32_3951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3950 : BitVec 32 := 1#32
  let v3035 : BitVec 32 := Scalar.muli v7 c1_i32_3950
  let v3036 : BitVec 32 := Scalar.addi c0_i32_3951 v3035
  v3036.toNat
def k0_dev122 (d0 : Dev nD) : Nat :=
  let c0_i32_3963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3962 : BitVec 32 := 1#32
  let v3045 : BitVec 32 := Scalar.muli v5 c1_i32_3962
  let v3046 : BitVec 32 := Scalar.addi c0_i32_3963 v3045
  v3046.toNat
def k0_dev123 (d0 : Dev nD) : Nat :=
  let c0_i32_3999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3998 : BitVec 32 := 1#32
  let v3071 : BitVec 32 := Scalar.muli v7 c1_i32_3998
  let v3072 : BitVec 32 := Scalar.addi c0_i32_3999 v3071
  v3072.toNat
def k0_dev124 (d0 : Dev nD) : Nat :=
  let c0_i32_4011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4010 : BitVec 32 := 1#32
  let v3081 : BitVec 32 := Scalar.muli v5 c1_i32_4010
  let v3082 : BitVec 32 := Scalar.addi c0_i32_4011 v3081
  v3082.toNat
def k0_dev125 (d0 : Dev nD) : Nat :=
  let c0_i32_4047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4046 : BitVec 32 := 1#32
  let v3107 : BitVec 32 := Scalar.muli v7 c1_i32_4046
  let v3108 : BitVec 32 := Scalar.addi c0_i32_4047 v3107
  v3108.toNat
def k0_dev126 (d0 : Dev nD) : Nat :=
  let c0_i32_4059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4058 : BitVec 32 := 1#32
  let v3117 : BitVec 32 := Scalar.muli v5 c1_i32_4058
  let v3118 : BitVec 32 := Scalar.addi c0_i32_4059 v3117
  v3118.toNat
def k0_dev127 (d0 : Dev nD) : Nat :=
  let c0_i32_4095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4094 : BitVec 32 := 1#32
  let v3143 : BitVec 32 := Scalar.muli v7 c1_i32_4094
  let v3144 : BitVec 32 := Scalar.addi c0_i32_4095 v3143
  v3144.toNat
def k0_dev128 (d0 : Dev nD) : Nat :=
  let c0_i32_4107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4106 : BitVec 32 := 1#32
  let v3153 : BitVec 32 := Scalar.muli v5 c1_i32_4106
  let v3154 : BitVec 32 := Scalar.addi c0_i32_4107 v3153
  v3154.toNat
def k0_dev129 (d0 : Dev nD) : Nat :=
  let c0_i32_4259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4258 : BitVec 32 := 1#32
  let v3247 : BitVec 32 := Scalar.muli v7 c1_i32_4258
  let v3248 : BitVec 32 := Scalar.addi c0_i32_4259 v3247
  v3248.toNat
def k0_dev130 (d0 : Dev nD) : Nat :=
  let c0_i32_4271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4270 : BitVec 32 := 1#32
  let v3257 : BitVec 32 := Scalar.muli v5 c1_i32_4270
  let v3258 : BitVec 32 := Scalar.addi c0_i32_4271 v3257
  v3258.toNat
def k0_dev131 (d0 : Dev nD) : Nat :=
  let c0_i32_4307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4306 : BitVec 32 := 1#32
  let v3283 : BitVec 32 := Scalar.muli v7 c1_i32_4306
  let v3284 : BitVec 32 := Scalar.addi c0_i32_4307 v3283
  v3284.toNat
def k0_dev132 (d0 : Dev nD) : Nat :=
  let c0_i32_4319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4318 : BitVec 32 := 1#32
  let v3293 : BitVec 32 := Scalar.muli v5 c1_i32_4318
  let v3294 : BitVec 32 := Scalar.addi c0_i32_4319 v3293
  v3294.toNat
def k0_dev133 (d0 : Dev nD) : Nat :=
  let c0_i32_4355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4354 : BitVec 32 := 1#32
  let v3319 : BitVec 32 := Scalar.muli v7 c1_i32_4354
  let v3320 : BitVec 32 := Scalar.addi c0_i32_4355 v3319
  v3320.toNat
def k0_dev134 (d0 : Dev nD) : Nat :=
  let c0_i32_4367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4366 : BitVec 32 := 1#32
  let v3329 : BitVec 32 := Scalar.muli v5 c1_i32_4366
  let v3330 : BitVec 32 := Scalar.addi c0_i32_4367 v3329
  v3330.toNat
def k0_dev135 (d0 : Dev nD) : Nat :=
  let c0_i32_4403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4402 : BitVec 32 := 1#32
  let v3355 : BitVec 32 := Scalar.muli v7 c1_i32_4402
  let v3356 : BitVec 32 := Scalar.addi c0_i32_4403 v3355
  v3356.toNat
def k0_dev136 (d0 : Dev nD) : Nat :=
  let c0_i32_4415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4414 : BitVec 32 := 1#32
  let v3365 : BitVec 32 := Scalar.muli v5 c1_i32_4414
  let v3366 : BitVec 32 := Scalar.addi c0_i32_4415 v3365
  v3366.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Steps.lean ====
/-
  The kernel body, written once per kind of step.

  The printed body is one long sequence of operations, cut into pieces of equal length that have nothing to do with the
  algorithm. Here the same sequence is written along the algorithm: the SEED (a device's own chunk, quarter by quarter), then
  fourteen steps, each of which takes what the neighbour sent, adds to it during the first seven steps, sends it on, and frees
  the slot the step before it read from. The two directions of the ring are one text at different buffers.

  `body_eq` says that the printed body is this sequence, by unfolding both.
-/
module

public import proofs.«01_k».proof.Proof.Gen.KernelIdeal.Skeleton

@[expose] public section

noncomputable section

namespace Cert.KernelIdeal.Steps

open Idealize.ShloMosaic Idealize.SL.Sem Cert.KernelIdeal Cert.KernelIdeal.Gen

variable {F : FTy → Type} [FloatOps F]

/-- A program of one core of the kernel. -/
abbrev Pr (F : FTy → Type) [FloatOps F] (α : Type) := Prog (TpuEff nD τ sig (Elt F) Λ₀ .tc) α

/-- A communication buffer: four slots of 512 rows. -/
abbrev Comm := Memref sig .tc .vmem S4x512x1024 .f32
/-- One quarter of a slot. -/
abbrev Quarter := Memref sig .tc .vmem S128x1024 .f32

/-- The slot that step `t` sends from. -/
abbrev slot (t : ℕ) : Fin 4 := ⟨t % 4, Nat.mod_lt _ (by decide)⟩

theorem quarter_inb (s i : Fin 4) : ∀ a, (![s.val, 128 * i.val, 0] : Fin 3 → Nat) a + S1x128x1024.size a ≤ S4x512x1024.size a := by
  revert s i; decide
theorem slot_inb (s : Fin 4) : ∀ a, (![s.val, 0, 0] : Fin 3 → Nat) a + S1x512x1024.size a ≤ S4x512x1024.size a := by
  revert s; decide
theorem sem_inb (s i : Fin 4) : ∀ a, (![s.val, i.val] : Fin 2 → Nat) a + S1x1.size a ≤ S4x4.size a := by
  revert s i; decide
theorem part_slices (i : Fin 4) : S512x1024.Slices ![128 * i.val, 0] S128x1024 := by revert i; decide

/-- Quarter `i` of slot `s`, as a rectangle of the buffer. -/
abbrev quarterRect (s i : Fin 4) : Rect S4x512x1024 :=
  Rect.unit (s := S4x512x1024) ![s.val, 128 * i.val, 0] S1x128x1024.size (quarter_inb s i)
/-- Quarter `i` of slot `s`, as a buffer of its own. -/
abbrev quarter (m : Comm) (s i : Fin 4) : Quarter :=
  (m.slice (quarterRect s i) (fun _ => rfl)).squeeze S128x1024 squeezes_S1x128x1024_S128x1024
/-- Slot `s`, as a buffer of its own. -/
abbrev slotRef (m : Comm) (s : Fin 4) : Memref sig .tc .vmem S512x1024 .f32 :=
  (m.slice (Rect.unit (s := S4x512x1024) ![s.val, 0, 0] S1x512x1024.size (slot_inb s)) (fun _ => rfl)).squeeze S512x1024
    squeezes_S1x512x1024_S512x1024
/-- The semaphore of quarter `i` of slot `s`. -/
abbrev semAt (a : DmaSems sig S4x4) (s i : Fin 4) : DmaSem sig :=
  ((a.slice (Rect.unit (s := S4x4) ![s.val, i.val] S1x1.size (sem_inb s i))).squeeze S_ squeezes_S1x1_S_).sem

/-- The semaphore on which neighbours meet at entry. -/
abbrev barSem : Sem sig := (SemArray.scalar (sig.barrier 0 rfl) : Sems sig S_).sem

/-- The device that follows on the ring, and the one that precedes. -/
abbrev right (d : Dev nD) : Dev nD := ⟨k0_dev2 d, k0_dev2_lt d⟩
abbrev left (d : Dev nD) : Dev nD := ⟨k0_dev1 d, k0_dev1_lt d⟩

/-! ### What is stored -/

/-- A quarter of the device's own chunk: 128 rows times half of the columns. -/
def seedVal (x : Vec F S128x512 .f32) (w : Vec F S512x1024 .f32) : FVec F S1x128x1024 .f32 := k0_pay1 x w
/-- A chunk's 512 rows times half of the columns. -/
def partVal (x : Vec F S512x512 .f32) (w : Vec F S512x1024 .f32) : FVec F S512x1024 .f32 := k0_pay11 x w
/-- What arrived, plus quarter `i` of the device's own part. -/
def sumVal (i : Fin 4) (p : FVec F S512x1024 .f32) (old : Vec F S1x128x1024 .f32) : FVec F S128x1024 .f32 :=
  addf (shapeCast S128x1024 old shapeCasts_S1x128x1024_S128x1024) (extractStridedSlice S128x1024 ![128 * i.val, 0] p (part_slices i))
/-- `v · (1 / (1 + exp (0 - v)))`. -/
def gateVal (v : FVec F S128x1024 .f32) : FVec F S128x1024 .f32 :=
  mulf v (divf (broadcast S128x1024 (Scalar.ofBits .f32 0x3F800000#32))
    (addf (broadcast S128x1024 (Scalar.ofBits .f32 0x3F800000#32)) (exp (subf (broadcast S128x1024 (Scalar.ofBits .f32 0x00000000#32)) v))))
/-- What is stored at step `t`: the sum, through the gate once it is complete. -/
def accVal (t : ℕ) (i : Fin 4) (p : FVec F S512x1024 .f32) (old : Vec F S1x128x1024 .f32) : FVec F S1x128x1024 .f32 :=
  shapeCast S1x128x1024 (if t = 6 then gateVal (sumVal i p old) else sumVal i p old) shapeCasts_S128x1024_S1x128x1024

/-! ### The operations -/

section Ops
variable (x : Memref sig .tc .vmem S4096x512 .f32) (w : Memref sig .tc .vmem S512x2048 .f32) (o : Memref sig .tc .hbm S4096x2048 .f32)
  (ma mb : Comm) (sa ra sb rb : DmaSems sig S4x4) (oa ob : DmaSems sig S_) (ca cb : Sems sig S_) (d : Dev nD)

/-- Load the whole quarter. -/
abbrev loadQ (m : Comm) (s i : Fin 4) : Pr F (Vec F S1x128x1024 .f32) :=
  Prog.lift (.load m (quarterRect s i).toLoadRect (View.loadsAt_vmem h_S1x128x1024))
/-- Store the whole quarter. -/
abbrev storeQ (m : Comm) (s i : Fin 4) (v : FVec F S1x128x1024 .f32) : Pr F PUnit :=
  Prog.lift (.store m (quarterRect s i) v Finset.univ (View.stores_vmem_bits_univ h_S1x128x1024 rfl) (.inl rfl))
/-- Load 128 rows of the device's own chunk of the left operand. -/
abbrev loadX1 (i : Fin 4) : Pr F (Vec F S128x512 .f32) :=
  Prog.lift (.load x (Rect.unit (s := S4096x512) (k0_off1 d (BitVec.ofNat 32 (128 * i.val))) S128x512.size (k0_off1_inb d i)).toLoadRect
    (View.loadsAt_vmem h_S128x512))
abbrev loadX2 (r : Fin 7) : Pr F (Vec F S512x512 .f32) :=
  Prog.lift (.load x (Rect.unit (s := S4096x512) (k0_off2 d (BitVec.ofNat 32 (1 + r.val))) S512x512.size (k0_off2_inb d r)).toLoadRect
    (View.loadsAt_vmem h_S512x512))
abbrev loadX3 (r : Fin 7) : Pr F (Vec F S512x512 .f32) :=
  Prog.lift (.load x (Rect.unit (s := S4096x512) (k0_off3 d (BitVec.ofNat 32 r.val)) S512x512.size (k0_off3_inb d r)).toLoadRect
    (View.loadsAt_vmem h_S512x512))
abbrev loadWa : Pr F (Vec F S512x1024 .f32) :=
  Prog.lift (.load w (Rect.unit (s := S512x2048) ![0, 0] S512x1024.size inb_S512x2048_S512x1024_0_0).toLoadRect
    (View.loadsAt_vmem h_S512x1024))
abbrev loadWb : Pr F (Vec F S512x1024 .f32) :=
  Prog.lift (.load w (Rect.unit (s := S512x2048) ![0, 1024] S512x1024.size inb_S512x2048_S512x1024_0_1024).toLoadRect
    (View.loadsAt_vmem h_S512x1024))

/-- Send quarter `i` of step `t` to device `p`. -/
abbrev send (m : Comm) (ss rs : DmaSems sig S4x4) (p : Dev nD) (t : ℕ) (i : Fin 4) : Pr F PUnit :=
  Prog.lift (.enqueueDma (quarter m (slot t) i) (.remote (Dev.tc p) (quarter m (slot (t + 1)) i) (.dma (semAt ss (slot t) i)))
    (.dma (semAt rs (slot (t + 1)) i)) ((View.wordExact_bits rfl).reshape _ _) ((View.wordExact_bits rfl).reshape _ _)
    ⟨⟨rfl, Or.inl rfl⟩, trivial⟩)
/-- Wait for quarter `i` of step `t` to arrive. -/
abbrev recvWait (m : Comm) (rs : DmaSems sig S4x4) (t : ℕ) (i : Fin 4) : Pr F PUnit :=
  Prog.lift (.waitDma2 (semAt rs (slot (t + 1)) i) (quarter m (slot t) i) (quarter m (slot (t + 1)) i)
    ((View.wordExact_bits rfl).reshape _ _) ((View.wordExact_bits rfl).reshape _ _))
/-- Wait until quarter `i` of step `t` has left. -/
abbrev sendWait (m : Comm) (ss : DmaSems sig S4x4) (t : ℕ) (i : Fin 4) : Pr F PUnit :=
  Prog.lift (.waitDma2 (semAt ss (slot t) i) (quarter m (slot (t + 1)) i) (quarter m (slot t) i)
    ((View.wordExact_bits rfl).reshape _ _) ((View.wordExact_bits rfl).reshape _ _))

/-- The rows of the result written by copy `r` in either direction. -/
abbrev outA (r : Fin 8) : Memref sig .tc .hbm S512x1024 .f32 :=
  o.slice (Rect.unit (s := S4096x2048) (k0_off4 d (k0_off4_at r)) S512x1024.size (k0_off4_inb d r)) (fun _ => rfl)
abbrev outB (r : Fin 8) : Memref sig .tc .hbm S512x1024 .f32 :=
  o.slice (Rect.unit (s := S4096x2048) (k0_off5 d (k0_off5_at r)) S512x1024.size (k0_off5_inb d r)) (fun _ => rfl)
/-- Copy a finished slot to the result. -/
abbrev copyOut (m : Comm) (dst : Memref sig .tc .hbm S512x1024 .f32) (os : DmaSems sig S_) (r : Fin 8) : Pr F PUnit :=
  Prog.lift (.enqueueDma (slotRef m (slot (r.val + 7))) (.here dst) (.dma os.sem) ((View.wordExact_bits rfl).reshape _ _)
    (View.wordExact_bits rfl) ⟨Or.inl rfl, trivial⟩)
abbrev copyWait (m : Comm) (dst : Memref sig .tc .hbm S512x1024 .f32) (os : DmaSems sig S_) (r : Fin 8) : Pr F PUnit :=
  Prog.lift (.waitDma2 os.sem (slotRef m (slot (r.val + 7))) dst ((View.wordExact_bits rfl).reshape _ _) (View.wordExact_bits rfl))

/-- One direction's store of a quarter of the own chunk. -/
abbrev seedA (i : Fin 4) : Pr F PUnit := do
  let a ← loadX1 x d i
  let b ← loadWa w
  let _ ← loadQ ma 0 i
  storeQ ma 0 i (seedVal a b)
abbrev seedB (i : Fin 4) : Pr F PUnit := do
  let a ← loadX1 x d i
  let b ← loadWb w
  let _ ← loadQ mb 0 i
  storeQ mb 0 i (seedVal a b)
/-- Both directions' sends of quarter `i` of step `t`. -/
abbrev sendBoth (t : ℕ) (i : Fin 4) : Pr F PUnit := do
  send ma sa ra (right d) t i
  send mb sb rb (left d) t i

/-- Everything before the first step. -/
def seed : Pr F PUnit := do
  semSignalWord (left d) barSem 1#32
  semSignalWord (right d) barSem 1#32
  seedA x w ma d 0
  seedB x w mb d 0
  semWaitWord barSem 2#32
  sendBoth ma mb sa ra sb rb d 0 0
  seedA x w ma d 1
  seedB x w mb d 1
  sendBoth ma mb sa ra sb rb d 0 1
  seedA x w ma d 2
  seedB x w mb d 2
  sendBoth ma mb sa ra sb rb d 0 2
  seedA x w ma d 3
  seedB x w mb d 3
  sendBoth ma mb sa ra sb rb d 0 3

/-- What step `t` does with quarter `i` of what arrived. -/
abbrev takeQ (m : Comm) (rs : DmaSems sig S4x4) (t : ℕ) (i : Fin 4) (p : FVec F S512x1024 .f32) : Pr F PUnit := do
  recvWait m rs t i
  let v ← loadQ m (slot (t + 1)) i
  let _ ← loadQ m (slot (t + 1)) i
  storeQ m (slot (t + 1)) i (accVal t i p v)

/-- The credits that the send of step `t + 1` needs. -/
abbrev credits (t : ℕ) : Pr F PUnit :=
  if 2 ≤ t ∧ t ≤ 12 then do
    semWaitWord ca.sem 1#32
    semWaitWord cb.sem 1#32
  else pure ⟨⟩
/-- The sends of step `t + 1`, if there is one. -/
abbrev forward (t : ℕ) (i : Fin 4) : Pr F PUnit :=
  if t ≤ 12 then sendBoth ma mb sa ra sb rb d (t + 1) i else pure ⟨⟩

/-- A step's quarters while the sums are being formed. -/
def quartersSum (t : ℕ) (pa pb : FVec F S512x1024 .f32) : Pr F PUnit := do
  takeQ ma ra t 0 pa
  takeQ mb rb t 0 pb
  credits ca cb t
  forward ma mb sa ra sb rb d t 0
  takeQ ma ra t 1 pa
  takeQ mb rb t 1 pb
  forward ma mb sa ra sb rb d t 1
  takeQ ma ra t 2 pa
  takeQ mb rb t 2 pb
  forward ma mb sa ra sb rb d t 2
  takeQ ma ra t 3 pa
  takeQ mb rb t 3 pb
  forward ma mb sa ra sb rb d t 3
/-- A step's quarters while the sums are being passed round. -/
def quartersPass (t : ℕ) : Pr F PUnit := do
  recvWait ma ra t 0
  recvWait mb rb t 0
  credits ca cb t
  forward ma mb sa ra sb rb d t 0
  recvWait ma ra t 1
  recvWait mb rb t 1
  forward ma mb sa ra sb rb d t 1
  recvWait ma ra t 2
  recvWait mb rb t 2
  forward ma mb sa ra sb rb d t 2
  recvWait ma ra t 3
  recvWait mb rb t 3
  forward ma mb sa ra sb rb d t 3

/-- A step's waits for what it sent. -/
def sentAll (t : ℕ) : Pr F PUnit := do
  sendWait ma sa t 0
  sendWait mb sb t 0
  sendWait ma sa t 1
  sendWait mb sb t 1
  sendWait ma sa t 2
  sendWait mb sb t 2
  sendWait ma sa t 3
  sendWait mb sb t 3

/-- A step that frees its slot says so to the device that fills it. -/
def giveCredit (t : ℕ) : Pr F PUnit :=
  if t ≤ 10 then do
    semSignalWord (left d) ca.sem 1#32
    semSignalWord (right d) cb.sem 1#32
  else pure ⟨⟩

/-- Step `r` of the first seven: the sums. -/
def stepSum (r : Fin 7) : Pr F PUnit := do
  let xa ← loadX2 x d r
  let wa ← loadWa w
  let xb ← loadX3 x d r
  let wb ← loadWb w
  quartersSum ma mb sa ra sb rb ca cb d r.val (partVal xa wa) (partVal xb wb)
  sentAll ma mb sa sb r.val
  giveCredit ca cb d r.val

def putOut (r : Fin 8) : Pr F PUnit := do
  copyOut ma (outA o d r) oa r
  copyOut mb (outB o d r) ob r
def putWait (r : Fin 8) : Pr F PUnit := do
  copyWait ma (outA o d r) oa r
  copyWait mb (outB o d r) ob r

/-- Step `7 + r`: the finished chunks. -/
def stepPass (r : Fin 7) : Pr F PUnit := do
  quartersPass ma mb sa ra sb rb ca cb d (r.val + 7)
  sentAll ma mb sa sb (r.val + 7)
  putWait o ma mb oa ob d r.castSucc
  giveCredit ca cb d (r.val + 7)
  putOut o ma mb oa ob d r.succ

/-- The whole body. -/
def body : Pr F PUnit := do
  let d ← Prog.lift .deviceId
  seed x w ma mb sa ra sb rb d
  stepSum x w ma mb sa ra sb rb ca cb d 0
  stepSum x w ma mb sa ra sb rb ca cb d 1
  stepSum x w ma mb sa ra sb rb ca cb d 2
  stepSum x w ma mb sa ra sb rb ca cb d 3
  stepSum x w ma mb sa ra sb rb ca cb d 4
  stepSum x w ma mb sa ra sb rb ca cb d 5
  stepSum x w ma mb sa ra sb rb ca cb d 6
  putOut o ma mb oa ob d 0
  stepPass o ma mb sa ra sb rb oa ob ca cb d 0
  stepPass o ma mb sa ra sb rb oa ob ca cb d 1
  stepPass o ma mb sa ra sb rb oa ob ca cb d 2
  stepPass o ma mb sa ra sb rb oa ob ca cb d 3
  stepPass o ma mb sa ra sb rb oa ob ca cb d 4
  stepPass o ma mb sa ra sb rb oa ob ca cb d 5
  stepPass o ma mb sa ra sb rb oa ob ca cb d 6
  putWait o ma mb oa ob d 7

set_option maxRecDepth 200000 in
set_option maxHeartbeats 0 in
theorem body_eq (hx : x.IsWhole) (hw : w.IsWhole) (ho : o.IsWhole) (ha : ma.IsWhole) (hb : mb.IsWhole) :
    cc0__body (F := F) x hx w hw o ho ma ha mb hb sa ra sb rb oa ob ca cb
      = body x w o ma mb sa ra sb rb oa ob ca cb := rfl

end Ops

end Cert.KernelIdeal.Steps
-- ==== Proof.Ring.lean ====
/-
  The ring: its two directions, the buffers and semaphores of each, and how a communication buffer is cut.

  A communication buffer is four slots of 512 rows, a slot is four quarters of 128 rows, and the result is sixteen blocks of 512
  rows times half of the columns. Quarters are what is sent, slots what is copied to the result.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### Resources -/

abbrev UB : Type := URounds (GSem nD τ sig) ℕ
abbrev UU : Type := UR sig nD τ × UB
/-- Assertions: semaphore units are tallied by their level. -/
abbrev MM (F : FTy → Type) : Type := MT nD τ sig ℕ (Elt F) ℕ UU ℕ
abbrev EP : Emb (UR sig nD τ) (MM F) := embL
abbrev ER : Emb UB (MM F) := embR

/-! ### The two directions

`false` sends to the device that follows, `true` to the one that precedes. -/

abbrev comm : Bool → Comm | false => Memref.whole cc0_scratch0 | true => Memref.whole cc0_scratch1
abbrev ssem : Bool → DmaSems sig S4x4 | false => cc0_scratch2 | true => cc0_scratch4
abbrev rsem : Bool → DmaSems sig S4x4 | false => cc0_scratch3 | true => cc0_scratch5
abbrev osem : Bool → DmaSems sig S_ | false => cc0_scratch6 | true => cc0_scratch7
abbrev csem : Bool → Sems sig S_ | false => cc0_scratch8 | true => cc0_scratch9
abbrev dst : Bool → Dev nD → Dev nD | false, c => right c | true, c => left c
abbrev src : Bool → Dev nD → Dev nD | false, c => left c | true, c => right c
abbrev outM : Bool → Dev nD → Fin 8 → Memref sig .tc .hbm S512x1024 .f32
  | false, c, r => outA (Memref.whole main_v1) c r | true, c, r => outB (Memref.whole main_v1) c r

theorem right_val (c : Dev nD) : (right c).val = (c.val + 1) % 8 := k0_dev2_eq c
theorem left_val (c : Dev nD) : (left c).val = (c.val + 7) % 8 := k0_dev1_eq c
theorem left_right (c : Dev nD) : left (right c) = c := Fin.ext (by rw [left_val, right_val]; have : c.val < 8 := c.isLt; omega)
theorem right_left (c : Dev nD) : right (left c) = c := Fin.ext (by rw [right_val, left_val]; have : c.val < 8 := c.isLt; omega)
theorem src_dst (ρ : Bool) (c : Dev nD) : src ρ (dst ρ c) = c := by cases ρ; exacts [left_right c, right_left c]
theorem dst_src (ρ : Bool) (c : Dev nD) : dst ρ (src ρ c) = c := by cases ρ; exacts [right_left c, left_right c]
/-- Going round, as a permutation of the devices. -/
def around (ρ : Bool) : Dev nD ≃ Dev nD := ⟨dst ρ, src ρ, src_dst ρ, dst_src ρ⟩

/-! ### Semaphores -/

/-- The kernel's own semaphores: of the sends, of the arrivals, of the credits, of the copies to the result. -/
abbrev OKind : Type := (Bool × Fin 4 × Fin 4) ⊕ (Bool × Fin 4 × Fin 4) ⊕ Bool ⊕ Bool
/-- Those and the one that neighbours meet on at entry. -/
abbrev Kind : Type := Unit ⊕ OKind

abbrev osemOf : OKind → SemLoc sig
  | .inl (ρ, s, i) => .dma (semAt (ssem ρ) s i)
  | .inr (.inl (ρ, s, i)) => .dma (semAt (rsem ρ) s i)
  | .inr (.inr (.inl ρ)) => .reg (csem ρ).sem
  | .inr (.inr (.inr ρ)) => .dma (osem ρ).sem
abbrev semOf : Kind → SemLoc sig
  | .inl _ => .reg barSem
  | .inr k => osemOf k

theorem semOf_inj : Function.Injective semOf := by decide +kernel
theorem osemOf_inj : Function.Injective osemOf := fun a b h => Sum.inr_injective (semOf_inj (a₁ := .inr a) (a₂ := .inr b) h)

/-- The kind of a semaphore, if it is one of these. -/
def kindOf (σ : SemLoc sig) : Option Kind := Function.partialInv semOf σ
theorem kindOf_semOf (k : Kind) : kindOf (semOf k) = some k := Function.partialInv_left semOf_inj k

abbrev cell (c : Dev nD) (k : Kind) : GSem nD τ sig := ((c : Thread nD τ), semOf k)
abbrev kBar : Kind := .inl ()
abbrev kS (ρ : Bool) (s i : Fin 4) : Kind := .inr (.inl (ρ, s, i))
abbrev kR (ρ : Bool) (s i : Fin 4) : Kind := .inr (.inr (.inl (ρ, s, i)))
abbrev kC (ρ : Bool) : Kind := .inr (.inr (.inr (.inl ρ)))
abbrev kO (ρ : Bool) : Kind := .inr (.inr (.inr (.inr ρ)))

theorem cell_inj {c c' : Dev nD} {k k' : Kind} (h : cell c k = cell c' k') : c = c' ∧ k = k' := by
  have h1 := congrArg (fun g : GSem nD τ sig => g.1.1) h
  exact ⟨h1, semOf_inj (congrArg Prod.snd h)⟩

/-- The key of the count of slots that a device has given up in one direction: the name of a semaphore that the schedule of this
    file does not use, taken as a plain name. -/
abbrev keyOf : Kind ⊕ Bool → SemLoc sig
  | .inl k => semOf k
  | .inr false => .dma cc0_sem0_0
  | .inr true => .dma cc0_sem1_0
theorem keyOf_inj : Function.Injective keyOf := by decide +kernel
abbrev key (p : Dev nD × (Kind ⊕ Bool)) : GSem nD τ sig := ((p.1 : Thread nD τ), keyOf p.2)
abbrev gave (ρ : Bool) (c : Dev nD) : GSem nD τ sig := key (c, .inr ρ)
theorem key_inj : Function.Injective key := fun p q h =>
  Prod.ext (congrArg (fun g : GSem nD τ sig => g.1.1) h) (keyOf_inj (congrArg Prod.snd h))

/-! ### Finite conjunctions -/

section Big
variable {M : Type} [URA M] {I : Type} [DecidableEq I] {s : Finset I} {i : I} {Φ : I → sProp M}

theorem big_insert (h : i ∉ s) : bigSep (insert i s) Φ = iprop(Φ i ∗ bigSep s Φ) := bigSep_insert h
theorem big_erase (h : i ∈ s) : bigSep s Φ = iprop(Φ i ∗ bigSep (s.erase i) Φ) := bigSep_erase h
omit [DecidableEq I] in
theorem big_elim (h : i ∈ s) : (bigSep s Φ : sProp M) ⊢ Φ i := by classical exact bigSep_elim h
/-- The first of a run of times. -/
theorem big_from {a b : ℕ} (h : a < b) {Φ : ℕ → sProp M} :
    bigSep (Finset.Ico a b) Φ = iprop(Φ a ∗ bigSep (Finset.Ico (a + 1) b) Φ) := by
  rw [show Finset.Ico a b = insert a (Finset.Ico (a + 1) b) from by
    ext x; rw [Finset.mem_insert, Finset.mem_Ico, Finset.mem_Ico]; omega]
  exact bigSep_insert (by rw [Finset.mem_Ico]; omega)
/-- The last of a run of times. -/
theorem big_to {a b : ℕ} (h : a ≤ b) {Φ : ℕ → sProp M} :
    bigSep (Finset.Ico a (b + 1)) Φ = iprop(Φ b ∗ bigSep (Finset.Ico a b) Φ) := by
  rw [show Finset.Ico a (b + 1) = insert b (Finset.Ico a b) from by
    ext x; rw [Finset.mem_insert, Finset.mem_Ico, Finset.mem_Ico]; omega]
  exact bigSep_insert (by rw [Finset.mem_Ico]; omega)
end Big

/-! ### Cutting a buffer -/

section Cut
variable {Val : EltTy → Type} {Ix : Type} [DecidableEq Ix] {Name : Type} [DecidableEq Name] {U : Type} [URA U] {Lvl : Type}
local notation "𝕄'" => MT nD τ sig Ix Val Name U Lvl

/-- Two ways of reading the same elements of a buffer say the same. -/
theorem exists_pts_congr {ℓ : Loc nD τ sig} {q : PosShare TreeShare} {S S' : Finset (Idx ℓ)} {P P' : Buf Val ℓ → Prop}
    (hS : S = S') (hP : ∀ f, P f ↔ P' f) :
    (iprop(∃ f, ⌜P f⌝ ∗ (ℓ ↦[S]{q} f)) : sProp 𝕄') = iprop(∃ f, ⌜P' f⌝ ∗ (ℓ ↦[S']{q} f)) := by
  subst hS
  have : P = P' := funext fun f => propext (hP f)
  rw [this]

/-- A rectangle of a buffer, owned, is the same elements owned at a shape with as many. -/
theorem owns_reshape (c : Thread nD τ) {sp : Space} {s s' : Shape} {e : EltTy} (m : Memref sig c.2.kind sp s e)
    (h : s.Squeezes s') (q : PosShare TreeShare) (X : s.Idx → Val e) :
    (owns c m q X : sProp 𝕄') = owns c (m.squeeze s' h) q (fun j => X (Shape.reshapeEquiv h.numel_eq j)) := by
  have hs : (m.squeeze s' h).view.set = m.view.set := View.set_reshape _ _
  have hr (f : m.view.ty.Contents Val) :
      ((m.squeeze s' h).view.read Val f = fun j => X (Shape.reshapeEquiv h.numel_eq j)) ↔ m.view.read Val f = X := by
    constructor
    · intro hf; funext x
      have := congrFun hf ((Shape.reshapeEquiv h.numel_eq).symm x)
      simp only [Equiv.apply_symm_apply] at this
      rw [← this]
      show _ = m.view.read Val f ((Shape.reshapeEquiv h.numel_eq) ((Shape.reshapeEquiv h.numel_eq).symm x))
      rw [Equiv.apply_symm_apply]
    · intro hf; subst hf; rfl
  exact exists_pts_congr (ℓ := m.view.loc c) hs.symm (fun f => (hr f).symm)

/-- The part of a slot that is quarter `i`. -/
theorem sub_inb (i : Fin 4) : ∀ a, (![128 * i.val, 0] : Fin 2 → Nat) a + S128x1024.size a ≤ S512x1024.size a := by revert i; decide
abbrev subRect (i : Fin 4) : Rect S512x1024 := Rect.unit (s := S512x1024) ![128 * i.val, 0] S128x1024.size (sub_inb i)

theorem sub_disj (i i' : Fin 4) (h : i ≠ i') : Disjoint (subRect i).set (subRect i').set := by
  have hv : i.val ≠ i'.val := fun e => h (Fin.ext e)
  rw [Finset.disjoint_left]
  intro x hx hx'
  have h1 := Rect.mem_set_unit.mp hx (0 : Fin 2)
  have h2 := Rect.mem_set_unit.mp hx' (0 : Fin 2)
  have g1 : 128 * i.val ≤ (x (0 : Fin 2)).val ∧ (x (0 : Fin 2)).val < 128 * i.val + 128 := h1
  have g2 : 128 * i'.val ≤ (x (0 : Fin 2)).val ∧ (x (0 : Fin 2)).val < 128 * i'.val + 128 := h2
  omega
theorem sub_cov : (Finset.univ : Finset (Fin 4)).biUnion (fun i => (subRect i).set) = Finset.univ := by
  refine Finset.eq_univ_of_forall fun x => Finset.mem_biUnion.mpr ?_
  have h0 : (x (0 : Fin 2)).val < 512 := (x 0).isLt
  have h1 : (x (1 : Fin 2)).val < 1024 := (x 1).isLt
  refine ⟨⟨(x (0 : Fin 2)).val / 128, by omega⟩, Finset.mem_univ _, Rect.mem_set_unit.mpr fun a => ?_⟩
  fin_cases a
  · show 128 * ((x (0 : Fin 2)).val / 128) ≤ (x (0 : Fin 2)).val ∧ (x (0 : Fin 2)).val < 128 * ((x (0 : Fin 2)).val / 128) + 128
    omega
  · show 0 ≤ (x (1 : Fin 2)).val ∧ (x (1 : Fin 2)).val < 0 + 1024
    omega
theorem sub_cover (x : S512x1024.Idx) : ∃ p : Fin 4 × S128x1024.Idx, (subRect p.1).emb p.2 = x := by
  obtain ⟨i, -, hi⟩ := Finset.mem_biUnion.mp (sub_cov.symm ▸ Finset.mem_univ x)
  rw [← Rect.map_emb_univ, Finset.mem_map] at hi
  obtain ⟨j, -, hj⟩ := hi
  exact ⟨(i, j), hj⟩

/-- Four quarters put together. -/
def joinQ {α : Type} (Y : Fin 4 → S128x1024.Idx → α) : S512x1024.Idx → α :=
  fun x => Y (sub_cover x).choose.1 (sub_cover x).choose.2
theorem joinQ_emb {α : Type} (Y : Fin 4 → S128x1024.Idx → α) (i : Fin 4) (j : S128x1024.Idx) :
    joinQ Y ((subRect i).emb j) = Y i j := by
  have h := (sub_cover ((subRect i).emb j)).choose_spec
  unfold joinQ
  generalize (sub_cover ((subRect i).emb j)).choose = p at h
  obtain ⟨i', j'⟩ := p
  have hi : i' = i := by
    by_contra hne
    have h1 : (subRect i').emb j' ∈ (subRect i').set := by
      rw [← Rect.map_emb_univ]; exact Finset.mem_map_of_mem _ (Finset.mem_univ _)
    have h2 : (subRect i).emb j ∈ (subRect i).set := by
      rw [← Rect.map_emb_univ]; exact Finset.mem_map_of_mem _ (Finset.mem_univ _)
    exact Finset.disjoint_left.mp (sub_disj i' i hne) h1 (h ▸ h2)
  subst hi
  rw [(subRect i').emb.injective h]

theorem slot_emb (s i : Fin 4) (j : S128x1024.Idx) :
    (Rect.unit (s := S4x512x1024) ![s.val, 0, 0] S1x512x1024.size (slot_inb s)).emb
        (Shape.reshapeEquiv squeezes_S1x512x1024_S512x1024.numel_eq ((subRect i).emb j))
      = (quarterRect s i).emb (Shape.reshapeEquiv squeezes_S1x128x1024_S128x1024.numel_eq j) := by
  have h1 : Shape.reshapeEquiv squeezes_S1x512x1024_S512x1024.numel_eq ((subRect i).emb j) = Fin.cons ⟨0, Nat.one_pos⟩ ((subRect i).emb j) :=
    Shape.reshapeEquiv_cons_one _ _
  have h2 : Shape.reshapeEquiv squeezes_S1x128x1024_S128x1024.numel_eq j = Fin.cons ⟨0, Nat.one_pos⟩ j :=
    Shape.reshapeEquiv_cons_one _ _
  rw [h1, h2]
  funext a
  apply Fin.ext
  fin_cases a
  · rfl
  · show 0 + 1 * (128 * i.val + 1 * (j (0 : Fin 2)).val) = 128 * i.val + 1 * (j (0 : Fin 2)).val
    omega
  · show 0 + 1 * (0 + 1 * (j (1 : Fin 2)).val) = 0 + 1 * (j (1 : Fin 2)).val
    omega

/-- A quarter of a slot is a quarter of the buffer. -/
theorem owns_sub (c : Dev nD) (m : Comm) (s i : Fin 4) (q : PosShare TreeShare) (X : S128x1024.Idx → Val .f32) :
    (owns (c : Thread nD τ) ((slotRef m s).slice (subRect i) (fun _ => rfl)) q X : sProp 𝕄')
      = owns (c : Thread nD τ) (quarter m s i) q X := by
  have he : ((slotRef m s).slice (subRect i) (fun _ => rfl)).view.emb = (quarter m s i).view.emb :=
    DFunLike.ext _ _ fun j => congrArg m.view.emb (slot_emb s i j)
  have hs : ((slotRef m s).slice (subRect i) (fun _ => rfl)).view.set = (quarter m s i).view.set :=
    congrArg (fun e => Finset.univ.map e) he
  have hr (f : m.view.ty.Contents Val) : ((slotRef m s).slice (subRect i) (fun _ => rfl)).view.read Val f = (quarter m s i).view.read Val f := by
    funext x
    have := DFunLike.congr_fun he x
    unfold View.read
    exact congrArg (fun y => cast _ (f y)) this
  exact exists_pts_congr (ℓ := m.view.loc (c : Thread nD τ)) hs (fun f => by rw [hr f])

/-- A slot is its four quarters. -/
theorem slot_split [∀ e, Nonempty (Val e)] (c : Dev nD) (m : Comm) (s : Fin 4) (q : PosShare TreeShare) (Y : Fin 4 → S128x1024.Idx → Val .f32) :
    (owns (c : Thread nD τ) (slotRef m s) q (joinQ Y) : sProp 𝕄')
      = bigSep Finset.univ (fun i => owns (c : Thread nD τ) (quarter m s i) q (Y i)) := by
  have e : (fun i : Fin 4 => (owns (c : Thread nD τ) ((slotRef m s).slice (subRect i) (fun _ => rfl)) q
        (fun j => joinQ Y ((subRect i).emb j)) : sProp 𝕄'))
      = fun i => owns (c : Thread nD τ) (quarter m s i) q (Y i) := by
    funext i
    rw [← owns_sub]
    congr 1; funext j; exact joinQ_emb Y i j
  refine BI.equiv_iff.mp ⟨?_, ?_⟩
  · exact (owns_rects (c : Thread nD τ) (slotRef m s) q subRect (fun _ _ => rfl) sub_disj sub_cov (joinQ Y)).trans (by rw [e])
  · rw [← e]
    exact owns_of_rects (c : Thread nD τ) (slotRef m s) q subRect (fun _ _ => rfl) sub_disj sub_cov (joinQ Y)

theorem quarter_disj (p p' : Fin 4 × Fin 4) (h : p ≠ p') : Disjoint (quarterRect p.1 p.2).set (quarterRect p'.1 p'.2).set := by
  rw [Finset.disjoint_left]
  intro x hx hx'
  have h1 := Rect.mem_set_unit.mp hx
  have h2 := Rect.mem_set_unit.mp hx'
  have a1 : p.1.val ≤ (x (0 : Fin 3)).val ∧ (x (0 : Fin 3)).val < p.1.val + 1 := h1 0
  have a2 : p'.1.val ≤ (x (0 : Fin 3)).val ∧ (x (0 : Fin 3)).val < p'.1.val + 1 := h2 0
  have b1 : 128 * p.2.val ≤ (x (1 : Fin 3)).val ∧ (x (1 : Fin 3)).val < 128 * p.2.val + 128 := h1 1
  have b2 : 128 * p'.2.val ≤ (x (1 : Fin 3)).val ∧ (x (1 : Fin 3)).val < 128 * p'.2.val + 128 := h2 1
  exact h (Prod.ext (Fin.ext (by omega)) (Fin.ext (by omega)))
theorem quarter_cov : (Finset.univ : Finset (Fin 4 × Fin 4)).biUnion (fun p => (quarterRect p.1 p.2).set) = Finset.univ := by
  refine Finset.eq_univ_of_forall fun x => Finset.mem_biUnion.mpr ?_
  have h0 : (x (0 : Fin 3)).val < 4 := (x 0).isLt
  have h1 : (x (1 : Fin 3)).val < 512 := (x 1).isLt
  have h2 : (x (2 : Fin 3)).val < 1024 := (x 2).isLt
  refine ⟨(⟨(x (0 : Fin 3)).val, h0⟩, ⟨(x (1 : Fin 3)).val / 128, by omega⟩), Finset.mem_univ _, Rect.mem_set_unit.mpr fun a => ?_⟩
  fin_cases a
  · show (x (0 : Fin 3)).val ≤ (x (0 : Fin 3)).val ∧ (x (0 : Fin 3)).val < (x (0 : Fin 3)).val + 1
    omega
  · show 128 * ((x (1 : Fin 3)).val / 128) ≤ (x (1 : Fin 3)).val ∧ (x (1 : Fin 3)).val < 128 * ((x (1 : Fin 3)).val / 128) + 128
    omega
  · show 0 ≤ (x (2 : Fin 3)).val ∧ (x (2 : Fin 3)).val < 0 + 1024
    omega

/-- A quarter, at contents not said. -/
def anyQ (c : Dev nD) (m : Comm) (s i : Fin 4) : sProp 𝕄' := iprop(∃ X, owns (c : Thread nD τ) (quarter m s i) fullShare X)
instance anyQ_storable (c : Dev nD) (m : Comm) (s i : Fin 4) : BI.Storable (upEmb : UEmb _ 𝕄') (anyQ c m s i) := by
  unfold anyQ; infer_instance

theorem anyQ_intro (c : Dev nD) (m : Comm) (s i : Fin 4) (X : S128x1024.Idx → Val .f32) :
    (owns (c : Thread nD τ) (quarter m s i) fullShare X : sProp 𝕄') ⊢ anyQ c m s i := by
  unfold anyQ; iintro H; iexists X; iexact H
theorem anyQ_pts (c : Dev nD) (m : Comm) (s i : Fin 4) :
    (anyQ c m s i : sProp 𝕄') ⊢ iprop(∃ f, m.view.loc (c : Thread nD τ) ↦[(m.view.slice (quarterRect s i)).set]{fullShare} f) := by
  have hs : (quarter m s i).view.set = (m.view.slice (quarterRect s i)).set := View.set_reshape _ _
  unfold anyQ owns
  rw [hs]
  iintro ⟨%X, %f, %hf, H⟩; iexists f; iexact H

/-- A communication buffer is its sixteen quarters; -/
theorem comm_split (c : Dev nD) (m : Comm) (X : S4x512x1024.Idx → Val .f32) :
    (owns (c : Thread nD τ) m fullShare X : sProp 𝕄') ⊢ bigSep Finset.univ (fun p : Fin 4 × Fin 4 => anyQ c m p.1 p.2) := by
  refine (owns_rects (c : Thread nD τ) m fullShare (fun p : Fin 4 × Fin 4 => quarterRect p.1 p.2) (fun _ _ => rfl)
    quarter_disj quarter_cov X).trans ?_
  refine bigSep_mono fun p _ => ?_
  rw [owns_reshape (c : Thread nD τ) (m.slice (quarterRect p.1 p.2) (fun _ => rfl)) squeezes_S1x128x1024_S128x1024]
  exact anyQ_intro c m p.1 p.2 _
theorem owns_exists (c : Dev nD) (m : Comm) :
    (iprop(∃ g, m.view.loc (c : Thread nD τ) ↦[m.view.set]{fullShare} g) : sProp 𝕄')
      ⊢ iprop(∃ X, owns (c : Thread nD τ) m fullShare X) := by
  unfold owns
  iintro ⟨%g, H⟩; iexists _; iexists g; isplitr
  · ipureintro; rfl
  · iexact H
/-- and back. -/
theorem comm_join [∀ e, Nonempty (Val e)] (c : Dev nD) (m : Comm) :
    bigSep Finset.univ (fun p : Fin 4 × Fin 4 => anyQ c m p.1 p.2)
      ⊢ (iprop(∃ X, owns (c : Thread nD τ) m fullShare X) : sProp 𝕄') := by
  have hd (p p' : Fin 4 × Fin 4) (h : p ≠ p') :
      Disjoint (m.view.slice (quarterRect p.1 p.2)).set (m.view.slice (quarterRect p'.1 p'.2)).set := by
    rw [View.set_slice, View.set_slice]; exact (Finset.disjoint_map _).mpr (quarter_disj p p' h)
  have hS : (Finset.univ : Finset (Fin 4 × Fin 4)).biUnion (fun p => (m.view.slice (quarterRect p.1 p.2)).set) = m.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (quarter_cov.symm ▸ Finset.mem_univ x)
      exact Finset.mem_biUnion.mpr ⟨t, Finset.mem_univ _, by rw [View.set_slice]; exact Finset.mem_map_of_mem _ hx⟩
  refine (bigSep_mono fun p _ => anyQ_pts c m p.1 p.2).trans ?_
  refine (Idealize.ShloMosaic.Ring.pointsTo_sub_blocks_join_exists (ℓ := m.view.loc (c : Thread nD τ)) (fun p : Fin 4 × Fin 4 => (m.view.slice (quarterRect p.1 p.2)).set)
    hd m.view.set hS (fun _ => Classical.arbitrary _)).trans ?_
  exact owns_exists c m

/-- The rows that copy `r` fills, in chunks of 512. -/
def chunk : Bool → Dev nD → Fin 8 → ℕ
  | false, c, r => (c.val + 9 - r.val) % 8 | true, c, r => (c.val + 7 + r.val) % 8
theorem chunk_lt (ρ : Bool) (c : Dev nD) (r : Fin 8) : chunk ρ c r < 8 := by cases ρ <;> exact Nat.mod_lt _ (by decide)
theorem off4_eq : ∀ (c : Dev nD) (r : Fin 8), k0_off4 c (k0_off4_at r) = ![512 * chunk false c r, 0] := by decide +kernel
theorem off5_eq : ∀ (c : Dev nD) (r : Fin 8), k0_off5 c (k0_off5_at r) = ![512 * chunk true c r, 1024] := by decide +kernel

abbrev outRect : Bool → Dev nD → Fin 8 → Rect S4096x2048
  | false, c, r => Rect.unit (s := S4096x2048) (k0_off4 c (k0_off4_at r)) S512x1024.size (k0_off4_inb c r)
  | true, c, r => Rect.unit (s := S4096x2048) (k0_off5 c (k0_off5_at r)) S512x1024.size (k0_off5_inb c r)

theorem mem_outRect (ρ : Bool) (c : Dev nD) (r : Fin 8) (x : S4096x2048.Idx) :
    x ∈ (outRect ρ c r).set ↔ (x (0 : Fin 2)).val / 512 = chunk ρ c r ∧ ((x (1 : Fin 2)).val / 1024 = if ρ then 1 else 0) := by
  have h1 : (x (1 : Fin 2)).val < 2048 := (x 1).isLt
  have key (off : Fin 2 → ℕ) (inb) (k e : ℕ) (he : e = 0 ∨ e = 1) (ho : off = ![512 * k, 1024 * e]) :
      x ∈ (Rect.unit (s := S4096x2048) off S512x1024.size inb).set ↔ (x (0 : Fin 2)).val / 512 = k ∧ (x (1 : Fin 2)).val / 1024 = e := by
    subst ho
    rw [Rect.mem_set_unit]
    constructor
    · intro h
      have a : 512 * k ≤ (x (0 : Fin 2)).val ∧ (x (0 : Fin 2)).val < 512 * k + 512 := h 0
      have b : 1024 * e ≤ (x (1 : Fin 2)).val ∧ (x (1 : Fin 2)).val < 1024 * e + 1024 := h 1
      omega
    · rintro ⟨a, b⟩ i
      fin_cases i
      · show 512 * k ≤ (x (0 : Fin 2)).val ∧ (x (0 : Fin 2)).val < 512 * k + 512
        omega
      · show 1024 * e ≤ (x (1 : Fin 2)).val ∧ (x (1 : Fin 2)).val < 1024 * e + 1024
        omega
  cases ρ
  · exact key _ _ _ 0 (.inl rfl) (off4_eq c r)
  · exact key _ _ _ 1 (.inr rfl) (off5_eq c r)

theorem chunk_inj {ρ : Bool} {c : Dev nD} {r r' : Fin 8} (h : chunk ρ c r = chunk ρ c r') : r = r' := by
  revert ρ c r r'; decide +kernel
theorem chunk_surj (ρ : Bool) (c : Dev nD) (k : Fin 8) : ∃ r, chunk ρ c r = k.val := by
  revert ρ c k; decide +kernel

theorem out_disj (c : Dev nD) (p p' : Bool × Fin 8) (h : p ≠ p') : Disjoint (outRect p.1 c p.2).set (outRect p'.1 c p'.2).set := by
  rw [Finset.disjoint_left]
  intro x hx hx'
  rw [mem_outRect] at hx hx'
  have hρ : p.1 = p'.1 := by
    have := hx.2.symm.trans hx'.2
    revert this
    cases p.1 <;> cases p'.1 <;> simp
  obtain ⟨ρ, r⟩ := p; obtain ⟨ρ', r'⟩ := p'
  subst hρ
  exact h (Prod.ext rfl (chunk_inj (hx.1.symm.trans hx'.1)))
theorem out_cov (c : Dev nD) : (Finset.univ : Finset (Bool × Fin 8)).biUnion (fun p => (outRect p.1 c p.2).set) = Finset.univ := by
  refine Finset.eq_univ_of_forall fun x => Finset.mem_biUnion.mpr ?_
  have h0 : (x (0 : Fin 2)).val < 4096 := (x 0).isLt
  have h1 : (x (1 : Fin 2)).val < 2048 := (x 1).isLt
  obtain ⟨r, hr⟩ := chunk_surj (decide (1024 ≤ (x (1 : Fin 2)).val)) c ⟨(x (0 : Fin 2)).val / 512, by omega⟩
  refine ⟨(decide (1024 ≤ (x (1 : Fin 2)).val), r), Finset.mem_univ _, (mem_outRect _ c r x).mpr ⟨hr.symm, ?_⟩⟩
  by_cases h : 1024 ≤ (x (1 : Fin 2)).val
  · rw [decide_eq_true h, if_pos rfl]; omega
  · rw [decide_eq_false h, if_neg Bool.false_ne_true]; omega

/-- A block of the result, at contents not said. -/
def anyO (c : Dev nD) (ρ : Bool) (r : Fin 8) : sProp 𝕄' := iprop(∃ X, owns (c : Thread nD τ) (outM ρ c r) fullShare X)

/-- The result is its sixteen blocks. -/
theorem out_split (c : Dev nD) (X : S4096x2048.Idx → Val .f32) :
    (owns (c : Thread nD τ) (Memref.whole main_v1) fullShare X : sProp 𝕄') ⊢ bigSep Finset.univ (fun p : Bool × Fin 8 => anyO c p.1 p.2) := by
  refine (owns_rects (c : Thread nD τ) (Memref.whole main_v1) fullShare (fun p : Bool × Fin 8 => outRect p.1 c p.2)
    (fun p a => by obtain ⟨ρ, r⟩ := p; cases ρ <;> rfl) (out_disj c) (out_cov c) X).trans ?_
  refine bigSep_mono fun p _ => ?_
  obtain ⟨ρ, r⟩ := p
  unfold anyO
  cases ρ
  · exact exists_intro (Φ := fun X => owns (c : Thread nD τ) (outM false c r) fullShare X) _
  · exact exists_intro (Φ := fun X => owns (c : Thread nD τ) (outM true c r) fullShare X) _

end Cut

end Cert.KernelIdeal.Ring
-- ==== Proof.Cells.lean ====
/-
  What the semaphores stand for: what each device holds after each step, and what is handed over with each unit.

  Time runs over the steps 0 … 14. At time `t` a device holds, in slot `t mod 4` of either buffer, the four quarters `Y · t`. The
  send of time `t` fills slot `(t + 1) mod 4` of the next device. A slot freed at step `k` is filled again by the send of time
  `k + 3`.
-/
module

public import proofs.«01_k».proof.Proof.Ring

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev xM : Memref sig .tc .vmem S4096x512 .f32 := Memref.whole cc0_stg0_0
abbrev wM : Memref sig .tc .vmem S512x2048 .f32 := Memref.whole cc0_stg1_0

/-! ### Values -/

section Values
variable (X : Dev nD → S4096x512.Idx → Elt F .f32) (W : Dev nD → S512x2048.Idx → Elt F .f32)

def x1 (c : Dev nD) (i : Fin 4) : Vec F S128x512 .f32 :=
  xM.view.readAt (Elt F) (Rect.unit (s := S4096x512) (k0_off1 c (BitVec.ofNat 32 (128 * i.val))) S128x512.size (k0_off1_inb c i)).toLoadRect (X c)
def xP (ρ : Bool) (c : Dev nD) (r : Fin 7) : Vec F S512x512 .f32 :=
  match ρ with
  | false => xM.view.readAt (Elt F)
      (Rect.unit (s := S4096x512) (k0_off2 c (BitVec.ofNat 32 (1 + r.val))) S512x512.size (k0_off2_inb c r)).toLoadRect (X c)
  | true => xM.view.readAt (Elt F)
      (Rect.unit (s := S4096x512) (k0_off3 c (BitVec.ofNat 32 r.val)) S512x512.size (k0_off3_inb c r)).toLoadRect (X c)
def wP (ρ : Bool) (c : Dev nD) : Vec F S512x1024 .f32 :=
  match ρ with
  | false => wM.view.readAt (Elt F) (Rect.unit (s := S512x2048) ![0, 0] S512x1024.size inb_S512x2048_S512x1024_0_0).toLoadRect (W c)
  | true => wM.view.readAt (Elt F) (Rect.unit (s := S512x2048) ![0, 1024] S512x1024.size inb_S512x2048_S512x1024_0_1024).toLoadRect (W c)

/-- The device's own part of step `r`. -/
def part (ρ : Bool) (c : Dev nD) (r : Fin 7) : FVec F S512x1024 .f32 := partVal (xP X ρ c r) (wP W ρ c)

/-- The quarters held at time `t`. -/
def Y (ρ : Bool) : ℕ → Dev nD → Fin 4 → S128x1024.Idx → Elt F .f32
  | 0, c, i => shapeCast S128x1024 (seedVal (x1 X c i) (wP W ρ c)) shapeCasts_S1x128x1024_S128x1024
  | t + 1, c, i =>
    if h : t < 7 then
      shapeCast S128x1024 (accVal t i (part X W ρ c ⟨t, h⟩) (shapeCast S1x128x1024 (Y ρ t (src ρ c) i) shapeCasts_S128x1024_S1x128x1024))
        shapeCasts_S1x128x1024_S128x1024
    else Y ρ t (src ρ c) i

end Values

/-! ### Amounts -/

def NQ : ℕ := (quarter (comm false) 0 0).view.dmaCredit
def NS : ℕ := (outM false 0 0).view.dmaCredit
theorem NQ_pos : 0 < NQ := View.dmaCredit_pos _ (by decide)
theorem NS_pos : 0 < NS := View.dmaCredit_pos _ (by decide)
theorem quarter_credit (ρ : Bool) (s i : Fin 4) : (quarter (comm ρ) s i).view.dmaCredit = NQ := by cases ρ <;> rfl
theorem out_credit (ρ : Bool) (c : Dev nD) (r : Fin 8) : (outM ρ c r).view.dmaCredit = NS := by cases ρ <;> rfl

/-! ### Payloads -/

/-- Room for the send of time `t` at device `d`: the quarter it fills, and that the ones before have been taken. -/
def room (ρ : Bool) (d : Dev nD) (t : ℕ) (i : Fin 4) : sProp 𝕄 :=
  iprop(anyQ d (comm ρ) (slot (t + 1)) i ∗ reached ER (cell d (kR ρ (slot (t + 1)) i)) (t / 4))
instance room_storable (ρ : Bool) (d : Dev nD) (t : ℕ) (i : Fin 4) : BI.Storable (upEmb : UEmb _ 𝕄) (room ρ d t i) := by
  unfold room; infer_instance

/-- Room for all quarters. -/
def rooms (ρ : Bool) (d : Dev nD) (t : ℕ) : sProp 𝕄 := bigSep (Finset.univ : Finset (Fin 4)) fun i => room ρ d t i
instance rooms_storable (ρ : Bool) (d : Dev nD) (t : ℕ) : BI.Storable (upEmb : UEmb _ 𝕄) (rooms (F := F) ρ d t) := by
  unfold rooms; infer_instance

/-- The slots device `d` has given up: as many as counted, each still here or taken by the holder of its ticket. -/
def pool (ρ : Bool) (d : Dev nD) : sProp 𝕄 :=
  iprop(∃ n : ℕ, roundAuth ER (gave ρ d) n ∅ 0
    ∗ bigSep (Finset.range n) fun j => iprop(rooms ρ d (j + 3) ∨ dutyTok ER (gave ρ d) j 0))
instance pool_storable (ρ : Bool) (d : Dev nD) : BI.Storable (upEmb : UEmb _ 𝕄) (pool (F := F) ρ d) := by
  unfold pool; infer_instance

/-- Giving up a slot. -/
theorem pool_put (ρ : Bool) (d : Dev nD) (κ : ℕ) (k : ℕ) :
    iprop(inv κ (pool (F := F) ρ d) ∗ atPos ER (gave ρ d) k ∅ 0 ∗ rooms ρ d (k + 3))
      ⊢ |={Set.univ}=> (atPos ER (gave ρ d) (k + 1) ∅ 0 ∗ reached ER (gave ρ d) (k + 1)) := by
  iintro ⟨Hinv, Hat, Hr⟩
  imod (inv_acc (Set.mem_univ κ)) $$ Hinv with ⟨Hb, Hclose⟩
  unfold pool
  icases Hb with ⟨%n, Ha, Hs⟩
  ihave %he := (roundAuth_atPos_agree ER) $$ [Ha Hat]
  · isplitl [Ha] <;> iassumption
  obtain ⟨rfl, -, -⟩ := he
  imod (roundAuth_atPos_move ER (k + 1) ∅ 0 (Nat.le_succ k)) $$ [Ha Hat] with ⟨Ha, Hat⟩
  · isplitl [Ha] <;> iassumption
  imod (roundAuth_witness ER) $$ Ha with ⟨Ha, Hw⟩
  ihave Hc := Hclose $$ [Ha Hs Hr]
  · iexists (k + 1)
    isplitl [Ha]; · iexact Ha
    rw [Finset.range_add_one, big_insert Finset.notMem_range_self]
    isplitl [Hr]
    · ileft; iexact Hr
    iexact Hs
  imod Hc
  imodintro
  isplitl [Hat] <;> iassumption

/-- Taking a slot given up. -/
theorem pool_take (ρ : Bool) (d : Dev nD) (κ : ℕ) (k : ℕ) :
    iprop(inv κ (pool (F := F) ρ d) ∗ dutyTok ER (gave ρ d) k 0 ∗ reached ER (gave ρ d) (k + 1))
      ⊢ |={Set.univ}=> rooms (F := F) ρ d (k + 3) := by
  iintro ⟨Hinv, Ht, Hw⟩
  imod (inv_acc (Set.mem_univ κ)) $$ Hinv with ⟨Hb, Hclose⟩
  unfold pool
  icases Hb with ⟨%n, Ha, Hs⟩
  ihave %hle := (roundAuth_reached_le ER) $$ [Ha Hw]
  · isplitl [Ha] <;> iassumption
  have hk : k ∈ Finset.range n := Finset.mem_range.mpr hle
  ihave Hs := (Entails.of_eq (big_erase hk)) $$ Hs
  icases Hs with ⟨(Hr | Ht'), Hs⟩
  rotate_left
  · iexfalso; iapply (dutyTok_dutyTok_false ER) $$ [Ht Ht']
    isplitl [Ht] <;> iassumption
  ihave Hc := Hclose $$ [Ha Hs Ht]
  · iexists n
    isplitl [Ha]; · iexact Ha
    iapply (Entails.of_eq (big_erase hk).symm) $$ [Ht Hs]
    isplitl [Ht]
    · iright; iexact Ht
    iexact Hs
  imod Hc
  imodintro
  iexact Hr

def toF8 (r : ℕ) : Fin 8 := ⟨r % 8, Nat.mod_lt _ (by decide)⟩
theorem toF8_val (r : Fin 8) : toF8 r.val = r := Fin.ext (Nat.mod_eq_of_lt r.isLt)

section Sched
variable (X : Dev nD → S4096x512.Idx → Elt F .f32) (W : Dev nD → S512x2048.Idx → Elt F .f32)

def dutiesOf : Kind → ℕ → Finset ℕ
  | .inl _, r => if r = 0 then {0, 1} else ∅
  | .inr (.inl (_, s, _)), r => if 4 * r + s.val ≤ 13 then {0} else ∅
  | .inr (.inr (.inl (_, s, _))), r => if 4 * r + (s.val + 3) % 4 ≤ 13 then {0} else ∅
  | .inr (.inr (.inr (.inl _))), r => if r = 0 then Finset.range 11 else ∅
  | .inr (.inr (.inr (.inr _))), r => if r ≤ 7 then {0} else ∅
def amountOf : Kind → ℕ
  | .inl _ => 1
  | .inr (.inl _) => NQ
  | .inr (.inr (.inl _)) => NQ
  | .inr (.inr (.inr (.inl _))) => 1
  | .inr (.inr (.inr (.inr _))) => NS
theorem amountOf_pos (k : Kind) : 0 < amountOf k := by
  rcases k with _ | _ | _ | _ | _
  exacts [Nat.one_pos, NQ_pos, NQ_pos, Nat.one_pos, NS_pos]

/-- What comes with the copy of a finished slot to the result: the share of the slot lent to it, and the block filled. -/
def outPay (ρ : Bool) (c : Dev nD) (r : ℕ) : sProp 𝕄 :=
  iprop(owns (c : Thread nD τ) (slotRef (comm ρ) (slot ((toF8 r).val + 7))) fullShare.right (joinQ (Y X W ρ ((toF8 r).val + 7) c))
    ∗ owns (c : Thread nD τ) (outM ρ c (toF8 r)) fullShare (joinQ (Y X W ρ ((toF8 r).val + 7) c)))

def payOf (c : Dev nD) : Kind → ℕ → ℕ → sProp 𝕄
  | .inl _, _, d => bigSep (Finset.univ : Finset (Fin 3 × Fin 4)) fun p => room (decide (d = 1)) (dst (decide (d = 1)) c) p.1.val p.2
  | .inr (.inl (ρ, s, i)), r, _ => owns (c : Thread nD τ) (quarter (comm ρ) s i) fullShare.left (Y X W ρ (4 * r + s.val) c i)
  | .inr (.inr (.inl (ρ, s, i))), r, _ =>
    owns (c : Thread nD τ) (quarter (comm ρ) s i) fullShare (Y X W ρ (4 * r + (s.val + 3) % 4) (src ρ c) i)
  | .inr (.inr (.inr (.inl ρ))), _, d => reached ER (gave ρ (dst ρ c)) (d + 1)
  | .inr (.inr (.inr (.inr ρ))), r, _ => outPay X W ρ c r

instance outPay_storable (ρ : Bool) (c : Dev nD) (r : ℕ) : BI.Storable (upEmb : UEmb _ 𝕄) (outPay X W ρ c r) := by
  unfold outPay; infer_instance
instance payOf_storable (c : Dev nD) (k : Kind) (r : ℕ) (d : ℕ) : BI.Storable (upEmb : UEmb _ 𝕄) (payOf X W c k r d) := by
  rcases k with _ | _ | _ | _ | _ <;> (dsimp only [payOf]; infer_instance)

def Rd : Rounds.Schedule (GSem nD τ sig) ℕ 𝕄 where
  duties g r := match kindOf g.2 with | some k => dutiesOf k r | none => ∅
  unitless _ := False
  amount g _ _ := match kindOf g.2 with | some k => amountOf k | none => 1
  payload g r d := match kindOf g.2 with | some k => payOf X W g.1.1 k r d | none => iprop(emp)
  amount_pos g r d h := by
    cases kindOf g.2 with
    | none => exact Nat.one_pos
    | some k => exact amountOf_pos k

instance Rd_storable (g : GSem nD τ sig) (r : ℕ) (d : ℕ) : BI.Storable (upEmb : UEmb _ 𝕄) ((Rd (F := F) X W).payload g r d) := by
  show BI.Storable upEmb (match kindOf g.2 with | some k => payOf X W g.1.1 k r d | none => iprop(emp))
  cases kindOf g.2 <;> (dsimp only; infer_instance)

theorem Rd_duties (c : Dev nD) (k : Kind) (r : ℕ) : (Rd (F := F) X W).duties (cell c k) r = dutiesOf k r := by
  dsimp only [Rd, cell]; rw [kindOf_semOf]
theorem Rd_amount (c : Dev nD) (k : Kind) (r : ℕ) (d : ℕ) : (Rd (F := F) X W).amount (cell c k) r d = amountOf k := by
  dsimp only [Rd, cell]; rw [kindOf_semOf]
theorem Rd_payload (c : Dev nD) (k : Kind) (r : ℕ) (d : ℕ) : (Rd (F := F) X W).payload (cell c k) r d = payOf X W c k r d := by
  dsimp only [Rd, cell]; rw [kindOf_semOf]
theorem Rd_expect (c : Dev nD) (k : Kind) (r : ℕ) : (Rd (F := F) X W).expect (cell c k) r = (dutiesOf k r).card * amountOf k := by
  unfold Schedule.expect Schedule.amountOf
  rw [Rd_duties, Finset.sum_congr rfl fun d _ => Rd_amount X W c k r d, Finset.sum_const, smul_eq_mul]
theorem Rd_unitless (g : GSem nD τ sig) : ¬ (Rd (F := F) X W).unitless g := fun h => h

end Sched

/-! ### Debts and levels -/

/-- What a device owes others: its two meeting signals, its sends, its credits. -/
inductive Debt where
  | bar (ρ : Bool)
  | send (ρ : Bool) (t : ℕ) (i : Fin 4)
  | credit (ρ : Bool) (k : ℕ)
  deriving DecidableEq

def payee (c : Dev nD) : Debt → GSem nD τ sig
  | .bar ρ => cell (src ρ c) kBar
  | .send ρ t i => cell (dst ρ c) (kR ρ (slot (t + 1)) i)
  | .credit ρ _ => cell (src ρ c) (kC ρ)
def level : Debt → ℕ
  | .bar _ => 1
  | .send _ t _ => 2 * t + 2
  | .credit _ k => 2 * k + 3
def amt : Debt → ℕ
  | .bar _ => 1
  | .send _ _ _ => NQ
  | .credit _ _ => 1
def due (c : Dev nD) (j : Debt) : CellTallies nD τ sig ℕ := tallyAt (payee c j) (level j) (amt j)
def dues (c : Dev nD) (l : List Debt) : CellTallies nD τ sig ℕ := (l.map (due c)).sum
theorem dues_cons (c : Dev nD) (j : Debt) (l : List Debt) : dues c (j :: l) = dues c l + due c j := by
  unfold dues; rw [List.map_cons, List.sum_cons, add_comm]
theorem dues_nil (c : Dev nD) : dues c [] = 0 := rfl

/-- The levels a tally may be kept at. -/
def L (g : GSem nD τ sig) : Finset ℕ := if g.1.2 = .tc then Finset.range 64 else ∅
def lv (_ : GSem nD τ sig) (n : ℕ) : ℕ := n
theorem L_of_ne (g : GSem nD τ sig) (h : g.1.2 ≠ .tc) : L g = ∅ := if_neg h
theorem mem_L (c : Dev nD) (sm : SemLoc sig) {n : ℕ} (h : n < 64) : n ∈ L ((c : Thread nD τ), sm) := by
  unfold L; rw [if_pos rfl]; exact Finset.mem_range.mpr h
theorem payee_tc (c : Dev nD) (j : Debt) : ∃ (c' : Dev nD) (sm : SemLoc sig), payee c j = ((c' : Thread nD τ), sm) := by
  cases j <;> exact ⟨_, _, rfl⟩

theorem dues_pos {c : Dev nD} {l : List Debt} {g : GSem nD τ sig} {u : ℕ} (h : 0 < dues c l g u) : ∃ j ∈ l, g = payee c j ∧ u = level j := by
  induction l with
  | nil => exact absurd h (Nat.lt_irrefl 0)
  | cons j l ih =>
    rw [dues_cons, Pi.add_apply, Finsupp.add_apply] at h
    by_cases hj : g = payee c j ∧ u = level j
    · exact ⟨j, List.mem_cons_self, hj⟩
    · have hz : due c j g u = 0 := by unfold due; rw [tallyAt_apply, if_neg hj]
      rw [hz, Nat.add_zero] at h
      obtain ⟨j', hm, hj'⟩ := ih h
      exact ⟨j', List.mem_cons_of_mem _ hm, hj'⟩

/-- A device may wait at a level below all that it owes. -/
theorem mayWait (c : Dev nD) (sm : SemLoc sig) (n : ℕ) (l : List Debt) (hn : n < 64) (h : ∀ j ∈ l, n < level j ∧ level j < 64) :
    (levAts L lv : sProp 𝕄) ⊢ MayWait (c : Thread nD τ) sm n (dues c l) :=
  MayOwe.of_cut (L := L) (lev := lv) n
    (fun p hp => by rw [Finset.mem_singleton.mp hp]; exact mem_L c sm hn)
    (fun g u hg => by
      obtain ⟨j, hj, rfl, rfl⟩ := dues_pos hg
      obtain ⟨c', sm', e⟩ := payee_tc c j
      rw [e]; exact mem_L c' sm' (h j hj).2)
    (fun p hp => by rw [Finset.mem_singleton.mp hp]; exact le_refl _)
    (fun g u hg => by
      obtain ⟨j, hj, rfl, rfl⟩ := dues_pos hg
      exact (h j hj).1)

end Cert.KernelIdeal.Ring
-- ==== Proof.Ops.lean ====
/-
  Each operation of the body: what it needs and what it leaves.
-/
module

public import proofs.«01_k».proof.Proof.Cells

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev 𝒱₀ : Variants := Variants.none

/-- What a program of device `c` establishes. -/
abbrev WP (c : Dev nD) {α : Type} (p : Pr F α) (Q : α → sProp 𝕄) : sProp 𝕄 :=
  wp frame (wpE (defs₀ (F := F)) 𝒱₀ (c : Thread nD τ) none) Set.univ p Q

variable (X : Dev nD → S4096x512.Idx → Elt F .f32) (W : Dev nD → S512x2048.Idx → Elt F .f32)
variable (K : Dev nD × Kind → ℕ) (N : Dev nD × Bool → ℕ)

/-- What everyone knows: the order of the levels, what each semaphore stands for, and the pools. -/
def ctx : sProp 𝕄 :=
  iprop(levAts L lv ∗ (bigSep Finset.univ fun p : Dev nD × Kind => cellInv ER (Rd X W) (K p) (cell p.1 p.2))
    ∗ bigSep Finset.univ fun p : Dev nD × Bool => inv (N p) (pool p.2 p.1))
instance ctx_persistent : BI.Persistent (ctx X W K N) := by unfold ctx; infer_instance

theorem ctx_lev : ctx X W K N ⊢ levAts L lv := by unfold ctx; iintro ⟨H, -, -⟩; iexact H
theorem ctx_cell (c : Dev nD) (k : Kind) : ctx X W K N ⊢ cellInv ER (Rd X W) (K (c, k)) (cell c k) := by
  unfold ctx; iintro ⟨-, H, -⟩
  iapply (big_elim (Φ := fun p : Dev nD × Kind => cellInv ER (Rd X W) (K p) (cell p.1 p.2)) (Finset.mem_univ (c, k))) $$ H
theorem ctx_pool (c : Dev nD) (ρ : Bool) : ctx X W K N ⊢ inv (N (c, ρ)) (pool (F := F) ρ c) := by
  unfold ctx; iintro ⟨-, -, H⟩
  iapply (big_elim (Φ := fun p : Dev nD × Bool => inv (N p) (pool (F := F) p.2 p.1)) (Finset.mem_univ (c, ρ))) $$ H

/-- Device `c` owes what is on the list. -/
def owesL (c : Dev nD) (l : List Debt) : sProp 𝕄 := iprop(∃ V, owes (c : Thread nD τ) (dues c l) V)

/-- Where the owner of a semaphore stands. -/
def pos (c : Dev nD) (k : Kind) (r : ℕ) : sProp 𝕄 := iprop(atPos ER (cell c k) r ∅ 0 ∗ reached ER (cell c k) r)

/-! ### Times and slots -/

theorem time_send (t : ℕ) : 4 * (t / 4) + (slot t).val = t := by show 4 * (t / 4) + t % 4 = t; omega
theorem time_recv (t : ℕ) : 4 * (t / 4) + ((slot (t + 1)).val + 3) % 4 = t := by
  show 4 * (t / 4) + ((t + 1) % 4 + 3) % 4 = t; omega
theorem payS_eq (ρ : Bool) (c : Dev nD) (t : ℕ) (i : Fin 4) (d : ℕ) :
    payOf X W c (kS ρ (slot t) i) (t / 4) d = owns (c : Thread nD τ) (quarter (comm ρ) (slot t) i) fullShare.left (Y X W ρ t c i) := by
  dsimp only [payOf]; rw [time_send]
theorem payR_eq (ρ : Bool) (c : Dev nD) (t : ℕ) (i : Fin 4) (d : ℕ) :
    payOf X W c (kR ρ (slot (t + 1)) i) (t / 4) d
      = owns (c : Thread nD τ) (quarter (comm ρ) (slot (t + 1)) i) fullShare (Y X W ρ t (src ρ c) i) := by
  dsimp only [payOf]; rw [time_recv]
theorem dutyS (ρ : Bool) (c : Dev nD) (t : ℕ) (ht : t ≤ 13) (i : Fin 4) : (Rd X W).duties (cell c (kS ρ (slot t) i)) (t / 4) = {0} := by
  rw [Rd_duties]; dsimp only [dutiesOf]; rw [time_send, if_pos ht]
theorem dutyR (ρ : Bool) (c : Dev nD) (t : ℕ) (ht : t ≤ 13) (i : Fin 4) : (Rd X W).duties (cell c (kR ρ (slot (t + 1)) i)) (t / 4) = {0} := by
  rw [Rd_duties]; dsimp only [dutiesOf]; rw [time_recv, if_pos ht]

/-! ### Transfers -/

theorem send_spec (ρ : Bool) (c : Dev nD) (t : ℕ) (ht : t ≤ 13) (i : Fin 4) (l : List Debt) :
    iprop(ctx X W K N ∗ owns (c : Thread nD τ) (quarter (comm ρ) (slot t) i) fullShare.left (Y X W ρ t c i)
        ∗ room ρ (dst ρ c) t i ∗ reached ER (cell c (kS ρ (slot t) i)) (t / 4)
        ∗ dutyTok ER (cell c (kS ρ (slot t) i)) (t / 4) 0 ∗ dutyTok ER (cell (dst ρ c) (kR ρ (slot (t + 1)) i)) (t / 4) 0
        ∗ owesL c (.send ρ t i :: l))
      ⊢ WP c (send (comm ρ) (ssem ρ) (rsem ρ) (dst ρ c) t i) fun _ =>
          iprop(cred (tallyAt (cell c (kS ρ (slot t) i)) 0 NQ) ∗ owesL c l) := by
  have h1 (fs) (hfs : (quarter (comm ρ) (slot t) i).view.read (Elt F) fs = Y X W ρ t c i) :
      (((quarter (comm ρ) (slot t) i).view.loc (c : Thread nD τ) ↦[(quarter (comm ρ) (slot t) i).view.set]{fullShare.left} fs) : sProp 𝕄)
        ⊢ (Rd X W).payload (cell c (kS ρ (slot t) i)) (t / 4) 0 := by
    rw [Rd_payload, payS_eq, ← hfs]; exact owns_intro _ _ _ _
  have h2 (fd fs) (hfs : (quarter (comm ρ) (slot t) i).view.read (Elt F) fs = Y X W ρ t c i) :
      (((quarter (comm ρ) (slot (t + 1)) i).view.loc (dst ρ c : Thread nD τ) ↦[(quarter (comm ρ) (slot (t + 1)) i).view.set]{fullShare}
          (quarter (comm ρ) (slot (t + 1)) i).view.write (Elt F) fd ((quarter (comm ρ) (slot t) i).view.read (Elt F) fs) Finset.univ) : sProp 𝕄)
        ⊢ (Rd X W).payload (cell (dst ρ c) (kR ρ (slot (t + 1)) i)) (t / 4) 0 := by
    rw [Rd_payload, payR_eq, src_dst, ← hfs]
    refine (owns_intro _ _ _ _).trans (Entails.of_eq ?_)
    rw [View.read_write_univ]
  have h3 : (quarter (comm ρ) (slot (t + 1)) i).view.amount (.dma (semAt (rsem ρ) (slot (t + 1)) i)) = NQ := quarter_credit ρ _ _
  have h4 : (Rd X W).amount (cell c (kS ρ (slot t) i)) (t / 4) 0 = NQ := Rd_amount X W c _ _ _
  have h5 : (Rd X W).amount (cell (dst ρ c) (kR ρ (slot (t + 1)) i)) (t / 4) 0 = NQ := Rd_amount X W _ _ _ _
  have h6 : 0 ∈ (Rd X W).duties (cell c (kS ρ (slot t) i)) (t / 4) := by rw [dutyS X W ρ c t ht i]; exact Finset.mem_singleton_self _
  have h7 : 0 ∈ (Rd X W).duties (cell (dst ρ c) (kR ρ (slot (t + 1)) i)) (t / 4) := by
    rw [dutyR X W ρ _ t ht i]; exact Finset.mem_singleton_self _
  have h8 : dues c (.send ρ t i :: l) = dues c l + tallyAt (cell (dst ρ c) (kR ρ (slot (t + 1)) i)) (2 * t + 2) NQ := dues_cons c _ l
  iintro ⟨#Hctx, Hsrc, Hroom, #HrS, HtS, HtR, Ho⟩
  ihave #HcS := (ctx_cell X W K N c (kS ρ (slot t) i)) $$ Hctx
  ihave #HcR := (ctx_cell X W K N (dst ρ c) (kR ρ (slot (t + 1)) i)) $$ Hctx
  unfold room anyQ owesL
  icases Hroom with ⟨⟨%Z, Hdst⟩, #HrR⟩
  icases Ho with ⟨%V, Ho⟩
  unfold owns
  icases Hsrc with ⟨%fs, %hfs, Hsrc⟩
  icases Hdst with ⟨%fd, -, Hdst⟩
  simp only [Prog.lift]
  iapply (Rounds.wp_send_pointsTo 𝒱₀ ER (Rd X W) (c : Thread nD τ) none (κ₁ := K (c, kS ρ (slot t) i)) (κ₂ := K (dst ρ c, kR ρ (slot (t + 1)) i))
    (c' := (dst ρ c : Thread nD τ)) (src := quarter (comm ρ) (slot t) i) (dst := quarter (comm ρ) (slot (t + 1)) i)
    (sS := .dma (semAt (ssem ρ) (slot t) i)) (sem := .dma (semAt (rsem ρ) (slot (t + 1)) i))
    (r₁ := t / 4) (r₂ := t / 4) (d₁ := 0) (d₂ := 0) (fd := fd)
    h6 h7
    (2 * t + 2) 0 NQ h3 h4 h5 (dues c l) h8 (W := V)
    (q := fullShare.left) (fs := fs) (h1 fs hfs) (h2 fd fs hfs)) $$ [Hsrc Hdst HtS HtR Ho]
  · isplitr; · iexact HcS
    isplitr; · iexact HcR
    isplitl [Hsrc]; · iexact Hsrc
    isplitl [Hdst]; · iexact Hdst
    isplitl [Ho]; · iexact Ho
    isplitl [HtS]; · iexact HtS
    isplitr; · iexact HrS
    isplitl [HtR]; · iexact HtR
    iexact HrR
  iintro ⟨Hc, Ho⟩
  rw [wp_ret]; imodintro
  isplitl [Hc]; · iexact Hc
  iexists V; iexact Ho

/-! ### Waits -/

/-- A wait for a whole round. -/
theorem wait_spec (c : Dev nD) (k : Kind) (n r k' : ℕ) (l : List Debt) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (semOf k) k' K')
    (hk : k' = (dutiesOf k r).card * amountOf k) (hn : n < 64) (hl : ∀ j ∈ l, n < level j ∧ level j < 64) :
    iprop(ctx X W K N ∗ pos c k r ∗ cred (tallyAt (cell c k) n k') ∗ owesL c l)
      ⊢ WP c (.op w .ret) fun _ =>
          iprop(owesL c l ∗ pos c k (r + 1) ∗ bigSep (dutiesOf k r) fun d => payOf X W c k r d) := by
  have h1 : 0 + k' = (Rd X W).expect (cell c k) r := by rw [Nat.zero_add, Rd_expect, hk]
  have h2 : (bigSep ((Rd X W).duties (cell c k) r \ ∅) fun d => (Rd X W).payload (cell c k) r d)
      = bigSep (dutiesOf k r) fun d => payOf X W c k r d := by
    rw [Finset.sdiff_empty, Rd_duties]; exact bigSep_congr fun d _ => Rd_payload X W c k r d
  unfold pos
  iintro ⟨#Hctx, ⟨Hat, -⟩, Hc, Ho⟩
  ihave #Hcell := (ctx_cell X W K N c k) $$ Hctx
  ihave #Hlev := (ctx_lev X W K N) $$ Hctx
  unfold owesL
  icases Ho with ⟨%V, Ho⟩
  iapply (Rounds.wp_wait_rest_token 𝒱₀ ER (Rd X W) (c : Thread nD τ) none (κ := K (c, k)) hw (Set.mem_univ _) n
    (O := dues c l) (W := V) (R := r) (m := 0) (T := ∅) h1) $$ [Hat Hc Ho]
  · isplitr; · iexact Hcell
    isplitl [Hc]; · iexact Hc
    isplitl [Ho]; · iexact Ho
    isplitr; · iapply (mayWait c (semOf k) n l hn hl) $$ Hlev
    iexact Hat
  iintro ⟨Ho, Hat, Hr, Hp⟩
  rw [wp_ret]; imodintro
  isplitl [Ho]; · iexists _; iexact Ho
  isplitl [Hat Hr]
  · isplitl [Hat] <;> iassumption
  iapply (Entails.of_eq h2) $$ Hp

/-- A quarter arrives. -/
theorem recv_spec (ρ : Bool) (c : Dev nD) (t : ℕ) (ht : t ≤ 13) (i : Fin 4) (l : List Debt)
    (hl : ∀ j ∈ l, 2 * t + 2 < level j ∧ level j < 64) :
    iprop(ctx X W K N ∗ pos c (kR ρ (slot (t + 1)) i) (t / 4) ∗ cred (tallyAt (cell c (kR ρ (slot (t + 1)) i)) (2 * t + 2) NQ) ∗ owesL c l)
      ⊢ WP c (recvWait (comm ρ) (rsem ρ) t i) fun _ =>
          iprop(owesL c l ∗ pos c (kR ρ (slot (t + 1)) i) (t / 4 + 1)
            ∗ owns (c : Thread nD τ) (quarter (comm ρ) (slot (t + 1)) i) fullShare (Y X W ρ t (src ρ c) i)) := by
  have hd : dutiesOf (kR ρ (slot (t + 1)) i) (t / 4) = {0} := by dsimp only [dutiesOf]; rw [time_recv, if_pos ht]
  have h := wait_spec X W K N c (kR ρ (slot (t + 1)) i) (2 * t + 2) (t / 4) (quarter (comm ρ) (slot (t + 1)) i).view.dmaCredit l
    (wpE_waitDma2_eq (defs := defs₀ (F := F)) 𝒱₀ (c : Thread nD τ) none Set.univ
      (sem := semAt (rsem ρ) (slot (t + 1)) i) (src := quarter (comm ρ) (slot t) i) (dst := quarter (comm ρ) (slot (t + 1)) i)
      (hsrc := (View.wordExact_bits rfl).reshape _ _) (hdst := (View.wordExact_bits rfl).reshape _ _))
    (by rw [hd, quarter_credit]; exact (Nat.one_mul _).symm) (by omega) hl
  rw [hd, bigSep_singleton, payR_eq] at h
  rw [quarter_credit] at h
  exact h

/-- A quarter has left. -/
theorem sent_spec (ρ : Bool) (c : Dev nD) (t : ℕ) (ht : t ≤ 13) (i : Fin 4) (l : List Debt)
    (hl : ∀ j ∈ l, 0 < level j ∧ level j < 64) :
    iprop(ctx X W K N ∗ pos c (kS ρ (slot t) i) (t / 4) ∗ cred (tallyAt (cell c (kS ρ (slot t) i)) 0 NQ) ∗ owesL c l)
      ⊢ WP c (sendWait (comm ρ) (ssem ρ) t i) fun _ =>
          iprop(owesL c l ∗ pos c (kS ρ (slot t) i) (t / 4 + 1)
            ∗ owns (c : Thread nD τ) (quarter (comm ρ) (slot t) i) fullShare.left (Y X W ρ t c i)) := by
  have hd : dutiesOf (kS ρ (slot t) i) (t / 4) = {0} := by dsimp only [dutiesOf]; rw [time_send, if_pos ht]
  have h := wait_spec X W K N c (kS ρ (slot t) i) 0 (t / 4) (quarter (comm ρ) (slot t) i).view.dmaCredit l
    (wpE_waitDma2_eq (defs := defs₀ (F := F)) 𝒱₀ (c : Thread nD τ) none Set.univ
      (sem := semAt (ssem ρ) (slot t) i) (src := quarter (comm ρ) (slot (t + 1)) i) (dst := quarter (comm ρ) (slot t) i)
      (hsrc := (View.wordExact_bits rfl).reshape _ _) (hdst := (View.wordExact_bits rfl).reshape _ _))
    (by rw [hd, quarter_credit]; exact (Nat.one_mul _).symm) (by omega) hl
  rw [hd, bigSep_singleton, payS_eq] at h
  rw [quarter_credit] at h
  exact h

/-! ### Loads and stores -/

theorem quarter_set (m : Comm) (s i : Fin 4) : (quarter m s i).view.set = (m.access (quarterRect s i)).set :=
  View.set_reshape _ _
theorem read_unsqueeze {Val : EltTy → Type} {sp : Space} {s s' : Shape} {e : EltTy} (m : Memref sig .tc sp s e) (h : s.Squeezes s')
    (h' : s'.ShapeCasts s) (f : m.view.ty.Contents Val) :
    m.view.read Val f = shapeCast s ((m.squeeze s' h).view.read Val f) h' := by
  funext j
  show _ = m.view.read Val f (Shape.reshapeEquiv _ (Shape.reshapeEquiv _ j))
  rw [Shape.reshapeEquiv_reshapeEquiv, Shape.reshapeEquiv_self]
theorem read_squeeze {Val : EltTy → Type} {sp : Space} {s s' : Shape} {e : EltTy} (m : Memref sig .tc sp s e) (h : s.Squeezes s')
    (h' : s.ShapeCasts s') (f : m.view.ty.Contents Val) :
    (m.squeeze s' h).view.read Val f = shapeCast s' (m.view.read Val f) h' := rfl
theorem quarter_read {Val : EltTy → Type} (m : Comm) (s i : Fin 4) (f : m.view.ty.Contents Val) :
    (m.access (quarterRect s i)).read Val f
      = shapeCast S1x128x1024 ((quarter m s i).view.read Val f) shapeCasts_S128x1024_S1x128x1024 :=
  read_unsqueeze (m.slice (quarterRect s i) (fun _ => rfl)) squeezes_S1x128x1024_S128x1024 _ f
theorem quarter_written {Val : EltTy → Type} (m : Comm) (s i : Fin 4) (f : m.view.ty.Contents Val) (w : S1x128x1024.Idx → Val .f32) :
    (quarter m s i).view.read Val ((m.access (quarterRect s i)).write Val f w Finset.univ)
      = shapeCast S128x1024 w shapeCasts_S1x128x1024_S128x1024 :=
  (read_squeeze (m.slice (quarterRect s i) (fun _ => rfl)) squeezes_S1x128x1024_S128x1024 shapeCasts_S1x128x1024_S128x1024 _).trans
    (congrArg (fun z => shapeCast S128x1024 z shapeCasts_S1x128x1024_S128x1024)
      (View.read_write_univ (v := m.access (quarterRect s i)) f w))

theorem loadQ_spec (ρ : Bool) (c : Dev nD) (s i : Fin 4) (Z : S128x1024.Idx → Elt F .f32) :
    (owns (c : Thread nD τ) (quarter (comm ρ) s i) fullShare Z : sProp 𝕄)
      ⊢ WP c (loadQ (comm ρ) s i) fun v =>
          iprop(⌜v = shapeCast S1x128x1024 Z shapeCasts_S128x1024_S1x128x1024⌝ ∗ owns (c : Thread nD τ) (quarter (comm ρ) s i) fullShare Z) := by
  unfold owns
  iintro ⟨%f, %hf, H⟩
  simp only [Prog.lift]
  iapply (wp_load_rect 𝒱₀ (c : Thread nD τ) none Set.univ (m := comm ρ) (r := quarterRect s i) (quarter_set (comm ρ) s i).symm.subset) $$ H
  iintro H
  rw [wp_ret]; imodintro
  isplitr
  · ipureintro; rw [quarter_read, hf]
  iexists f
  isplitr
  · ipureintro; exact hf
  iexact H

theorem storeQ_spec (ρ : Bool) (c : Dev nD) (s i : Fin 4) (Z : S128x1024.Idx → Elt F .f32) (w : FVec F S1x128x1024 .f32) :
    (owns (c : Thread nD τ) (quarter (comm ρ) s i) fullShare Z : sProp 𝕄)
      ⊢ WP c (storeQ (comm ρ) s i w) fun _ =>
          owns (c : Thread nD τ) (quarter (comm ρ) s i) fullShare (shapeCast S128x1024 w shapeCasts_S1x128x1024_S128x1024) := by
  unfold owns
  iintro ⟨%f, %hf, H⟩
  simp only [Prog.lift]
  iapply (wp_store 𝒱₀ (c : Thread nD τ) none Set.univ (m := comm ρ) (r := quarterRect s i) (Mk := Finset.univ)
    (quarter_set (comm ρ) s i).symm.subset) $$ H
  iintro H
  rw [wp_ret]; imodintro
  iexists _
  isplitr
  · ipureintro; exact quarter_written (comm ρ) s i f w
  iexact H

/-- The operands, as loaded. -/
abbrev opnd (c : Dev nD) : sProp 𝕄 :=
  iprop((((c : Thread nD τ).loc cc0_stg0_0) ↦{fullShare} (X c)) ∗ (((c : Thread nD τ).loc cc0_stg1_0) ↦{fullShare} (W c)))

end Cert.KernelIdeal.Ring
-- ==== Proof.Signals.lean ====
/-
  The operations that meet others by signals, the copies to the result, and the loads of the operands.
-/
module

public import proofs.«01_k».proof.Proof.Ops

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### Operands -/

theorem loadX1_spec (c : Dev nD) (i : Fin 4) :
    (opnd X W c : sProp 𝕄) ⊢ WP c (loadX1 xM c i) fun v => iprop(⌜v = x1 X c i⌝ ∗ opnd X W c) := by
  iintro ⟨H, H'⟩
  simp only [Prog.lift]
  iapply (wp_load 𝒱₀ (c : Thread nD τ) none Set.univ (m := xM) (Finset.subset_univ _)) $$ H
  iintro H
  rw [wp_ret]; imodintro
  isplitr; · ipureintro; rfl
  isplitl [H] <;> iassumption
theorem loadX2_spec (c : Dev nD) (r : Fin 7) :
    (opnd X W c : sProp 𝕄) ⊢ WP c (loadX2 xM c r) fun v => iprop(⌜v = xP X false c r⌝ ∗ opnd X W c) := by
  iintro ⟨H, H'⟩
  simp only [Prog.lift]
  iapply (wp_load 𝒱₀ (c : Thread nD τ) none Set.univ (m := xM) (Finset.subset_univ _)) $$ H
  iintro H
  rw [wp_ret]; imodintro
  isplitr; · ipureintro; rfl
  isplitl [H] <;> iassumption
theorem loadX3_spec (c : Dev nD) (r : Fin 7) :
    (opnd X W c : sProp 𝕄) ⊢ WP c (loadX3 xM c r) fun v => iprop(⌜v = xP X true c r⌝ ∗ opnd X W c) := by
  iintro ⟨H, H'⟩
  simp only [Prog.lift]
  iapply (wp_load 𝒱₀ (c : Thread nD τ) none Set.univ (m := xM) (Finset.subset_univ _)) $$ H
  iintro H
  rw [wp_ret]; imodintro
  isplitr; · ipureintro; rfl
  isplitl [H] <;> iassumption
theorem loadWa_spec (c : Dev nD) :
    (opnd X W c : sProp 𝕄) ⊢ WP c (loadWa wM) fun v => iprop(⌜v = wP W false c⌝ ∗ opnd X W c) := by
  iintro ⟨H, H'⟩
  simp only [Prog.lift]
  iapply (wp_load 𝒱₀ (c : Thread nD τ) none Set.univ (m := wM) (Finset.subset_univ _)) $$ H'
  iintro H'
  rw [wp_ret]; imodintro
  isplitr; · ipureintro; rfl
  isplitl [H] <;> iassumption
theorem loadWb_spec (c : Dev nD) :
    (opnd X W c : sProp 𝕄) ⊢ WP c (loadWb wM) fun v => iprop(⌜v = wP W true c⌝ ∗ opnd X W c) := by
  iintro ⟨H, H'⟩
  simp only [Prog.lift]
  iapply (wp_load 𝒱₀ (c : Thread nD τ) none Set.univ (m := wM) (Finset.subset_univ _)) $$ H'
  iintro H'
  rw [wp_ret]; imodintro
  isplitr; · ipureintro; rfl
  isplitl [H] <;> iassumption

/-! ### The result -/

theorem dutyO (ρ : Bool) (r : Fin 8) : dutiesOf (kO ρ) r.val = {0} := by dsimp only [dutiesOf]; rw [if_pos (by omega)]

/-- A copy that has landed: the source as it was, the target with what the source holds. -/
theorem copy_pay (c : Dev nD) (m : Memref sig .tc .vmem S512x1024 .f32) (o : Memref sig .tc .hbm S512x1024 .f32)
    (fs : m.view.ty.Contents (Elt F)) (fd : o.view.ty.Contents (Elt F)) (q : PosShare TreeShare) :
    (iprop((o.view.loc (c : Thread nD τ) ↦[o.view.set]{fullShare} o.view.write (Elt F) fd (m.view.read (Elt F) fs) Finset.univ)
        ∗ (m.view.loc (c : Thread nD τ) ↦[m.view.set]{q} fs)) : sProp 𝕄)
      ⊢ iprop(owns (c : Thread nD τ) m q (m.view.read (Elt F) fs) ∗ owns (c : Thread nD τ) o fullShare (m.view.read (Elt F) fs)) := by
  iintro ⟨H1, H2⟩
  isplitl [H2]
  · iapply (owns_intro (c : Thread nD τ) m q fs) $$ H2
  unfold owns
  iexists (o.view.write (Elt F) fd (m.view.read (Elt F) fs) Finset.univ)
  isplitr
  · ipureintro; exact View.read_write_univ _ _
  iexact H1

theorem copy_any (c : Dev nD) (κ : ℕ) (m : Memref sig .tc .vmem S512x1024 .f32) (o : Memref sig .tc .hbm S512x1024 .f32) (sm : DmaSem sig)
    (r n : ℕ) (Z : S512x1024.Idx → Elt F .f32) (hN : o.view.amount (.dma sm) = n)
    (hd : 0 ∈ (Rd X W).duties ((c : Thread nD τ), .dma sm) r) (hk : (Rd X W).amount ((c : Thread nD τ), .dma sm) r 0 = n)
    (hpay : iprop(owns (c : Thread nD τ) m fullShare.right Z ∗ owns (c : Thread nD τ) o fullShare Z)
      = (Rd X W).payload ((c : Thread nD τ), .dma sm) r 0)
    (hsrc : m.view.WordExact) (hdst : o.view.WordExact) (hsem : DmaTarget.Typed (nD := nD) (p := (Proc.tc : Proc τ)) .vmem (.dma sm) (.here o)) :
    (iprop(cellInv ER (Rd X W) κ ((c : Thread nD τ), .dma sm) ∗ owns (c : Thread nD τ) m fullShare.right Z
        ∗ (∃ Z', owns (c : Thread nD τ) o fullShare Z') ∗ reached ER ((c : Thread nD τ), .dma sm) r ∗ dutyTok ER ((c : Thread nD τ), .dma sm) r 0) : sProp 𝕄)
      ⊢ WP c (.op (.enqueueDma m (.here o) (.dma sm) hsrc hdst hsem) .ret) fun _ => cred (tallyAt ((c : Thread nD τ), .dma sm) 0 n) := by
  have h1 (fs fd) (hfs : m.view.read (Elt F) fs = Z) :
      iprop((o.view.loc (c : Thread nD τ) ↦[o.view.set]{fullShare} o.view.write (Elt F) fd (m.view.read (Elt F) fs) Finset.univ)
        ∗ (m.view.loc (c : Thread nD τ) ↦[m.view.set]{fullShare.right} fs)) ⊢ (Rd X W).payload ((c : Thread nD τ), .dma sm) r 0 := by
    rw [← hpay, ← hfs]; exact copy_pay c m o fs fd fullShare.right
  iintro ⟨#Hc, Hsrc, ⟨%Z', Hdst⟩, #Hr, Ht⟩
  unfold owns
  icases Hsrc with ⟨%fs, %hfs, Hsrc⟩
  icases Hdst with ⟨%fd, -, Hdst⟩
  iapply (Rounds.wp_copy_pointsTo 𝒱₀ ER (Rd X W) (c : Thread nD τ) none (κ := κ)
    (src := m) (dst := o) (sem := .dma sm)
    (r := r) (d := 0) (fd := fd) (fs := fs) (q := fullShare.right) hd 0 n hN hk (h1 fs fd hfs)) $$ [Hsrc Hdst Ht]
  · isplitr; · iexact Hc
    isplitl [Hsrc]; · iexact Hsrc
    isplitl [Hdst]; · iexact Hdst
    isplitl [Ht]; · iexact Ht
    iexact Hr
  iintro Hc
  rw [wp_ret]; imodintro
  iexact Hc

theorem copy_spec (ρ : Bool) (c : Dev nD) (r : Fin 8) :
    iprop(ctx X W K N ∗ owns (c : Thread nD τ) (slotRef (comm ρ) (slot (r.val + 7))) fullShare.right (joinQ (Y X W ρ (r.val + 7) c))
        ∗ anyO c ρ r ∗ reached ER (cell c (kO ρ)) r.val ∗ dutyTok ER (cell c (kO ρ)) r.val 0)
      ⊢ WP c (copyOut (comm ρ) (outM ρ c r) (osem ρ) r) fun _ => cred (tallyAt (cell c (kO ρ)) 0 NS) := by
  have h6 : 0 ∈ (Rd X W).duties (cell c (kO ρ)) r.val := by rw [Rd_duties, dutyO]; exact Finset.mem_singleton_self _
  have h7 : iprop(owns (c : Thread nD τ) (slotRef (comm ρ) (slot (r.val + 7))) fullShare.right (joinQ (Y X W ρ (r.val + 7) c))
      ∗ owns (c : Thread nD τ) (outM ρ c r) fullShare (joinQ (Y X W ρ (r.val + 7) c))) = (Rd X W).payload (cell c (kO ρ)) r.val 0 := by
    rw [Rd_payload]; dsimp only [payOf]; unfold outPay; rw [toF8_val]
  have h := copy_any X W c (K (c, kO ρ)) (slotRef (comm ρ) (slot (r.val + 7))) (outM ρ c r) (osem ρ).sem r.val NS
    (joinQ (Y X W ρ (r.val + 7) c)) (out_credit ρ c r) h6 (Rd_amount X W c (kO ρ) _ _) h7
    ((View.wordExact_bits rfl).reshape _ _) (View.wordExact_bits rfl) ⟨Or.inl rfl, trivial⟩
  iintro ⟨#Hctx, Hsrc, Hdst, #Hr, Ht⟩
  ihave #Hc := (ctx_cell X W K N c (kO ρ)) $$ Hctx
  iapply h
  isplitr; · iexact Hc
  isplitl [Hsrc]; · iexact Hsrc
  isplitl [Hdst]; · unfold anyO; iexact Hdst
  isplitr; · iexact Hr
  iexact Ht

theorem copied_spec (ρ : Bool) (c : Dev nD) (r : Fin 8) (l : List Debt) (hl : ∀ j ∈ l, 0 < level j ∧ level j < 64) :
    iprop(ctx X W K N ∗ pos c (kO ρ) r.val ∗ cred (tallyAt (cell c (kO ρ)) 0 NS) ∗ owesL c l)
      ⊢ WP c (copyWait (comm ρ) (outM ρ c r) (osem ρ) r) fun _ =>
          iprop(owesL c l ∗ pos c (kO ρ) (r.val + 1)
            ∗ owns (c : Thread nD τ) (slotRef (comm ρ) (slot (r.val + 7))) fullShare.right (joinQ (Y X W ρ (r.val + 7) c))
            ∗ owns (c : Thread nD τ) (outM ρ c r) fullShare (joinQ (Y X W ρ (r.val + 7) c))) := by
  have hd := dutyO ρ r
  have h := wait_spec X W K N c (kO ρ) 0 r.val (outM ρ c r).view.dmaCredit l
    (wpE_waitDma2_eq (defs := defs₀ (F := F)) 𝒱₀ (c : Thread nD τ) none Set.univ
      (sem := (osem ρ).sem) (src := slotRef (comm ρ) (slot (r.val + 7))) (dst := outM ρ c r)
      (hsrc := (View.wordExact_bits rfl).reshape _ _) (hdst := View.wordExact_bits rfl))
    (by rw [hd, out_credit]; exact (Nat.one_mul _).symm) (by omega) hl
  rw [hd, bigSep_singleton] at h
  dsimp only [payOf] at h; unfold outPay at h; rw [toF8_val] at h
  rw [out_credit] at h
  exact h

/-! ### Meeting the neighbours -/

/-- The duty of the neighbour on either side. -/
abbrev side (ρ : Bool) : ℕ := if ρ then 1 else 0

theorem payBar_eq (ρ : Bool) (c : Dev nD) :
    payOf X W (src ρ c) kBar 0 (side ρ) = (bigSep (Finset.univ : Finset (Fin 3 × Fin 4)) fun p => room (F := F) ρ c p.1.val p.2) := by
  cases ρ
  · show (bigSep (Finset.univ : Finset (Fin 3 × Fin 4)) fun p => room (F := F) false (dst false (src false c)) p.1.val p.2) = _
    rw [dst_src]
  · show (bigSep (Finset.univ : Finset (Fin 3 × Fin 4)) fun p => room (F := F) true (dst true (src true c)) p.1.val p.2) = _
    rw [dst_src]

theorem meet_spec (ρ : Bool) (c : Dev nD) (l : List Debt) :
    iprop(ctx X W K N ∗ reached ER (cell (src ρ c) kBar) 0 ∗ dutyTok ER (cell (src ρ c) kBar) 0 (side ρ)
        ∗ (bigSep (Finset.univ : Finset (Fin 3 × Fin 4)) fun p => room ρ c p.1.val p.2) ∗ owesL c (.bar ρ :: l))
      ⊢ WP c (semSignalWord (src ρ c) barSem 1#32) fun _ => owesL c l := by
  have h1 : side ρ ∈ (Rd X W).duties (cell (src ρ c) kBar) 0 := by rw [Rd_duties]; cases ρ <;> decide
  have h2 : (Rd X W).amount (cell (src ρ c) kBar) 0 (side ρ) = (1#32).toInt.toNat := (Rd_amount X W _ _ _ _).trans (by decide)
  have h3 : (Rd X W).payload (cell (src ρ c) kBar) 0 (side ρ) = (bigSep (Finset.univ : Finset (Fin 3 × Fin 4)) fun p => room ρ c p.1.val p.2) := by
    rw [Rd_payload, payBar_eq]
  have h4 : dues c (.bar ρ :: l) = dues c l + tallyAt (cell (src ρ c) kBar) 1 (1#32).toInt.toNat := dues_cons c _ l
  iintro ⟨#Hctx, #Hr, Ht, Hp, Ho⟩
  ihave #Hc := (ctx_cell X W K N (src ρ c) kBar) $$ Hctx
  unfold owesL
  icases Ho with ⟨%V, Ho⟩
  simp only [semSignalWord, Prog.lift]
  iapply (Rounds.wp_signal 𝒱₀ ER (Rd X W) (c : Thread nD τ) none (dst := (src ρ c : Thread nD τ)) (sem := barSem) (κ := K (src ρ c, kBar))
      (r := 0) (d := side ρ) h1 h2 1 (dues c l) h4 (W := V)) $$ [Ho Ht Hp]
  · isplitr; · iexact Hc
    isplitl [Ho]; · iexact Ho
    isplitl [Ht]; · iexact Ht
    isplitl [Hp]; · iapply (Entails.of_eq h3.symm) $$ Hp
    iexact Hr
  iintro Ho
  rw [wp_ret]; imodintro
  iexists V; iexact Ho

theorem met_spec (c : Dev nD) (l : List Debt) (hl : ∀ j ∈ l, 1 < level j ∧ level j < 64) :
    iprop(ctx X W K N ∗ pos c kBar 0 ∗ cred (tallyAt (cell c kBar) 1 2) ∗ owesL c l)
      ⊢ WP c (semWaitWord barSem 2#32) fun _ =>
          iprop(owesL c l ∗ pos c kBar 1
            ∗ (bigSep (Finset.univ : Finset (Fin 3 × Fin 4)) fun p => room false (dst false c) p.1.val p.2)
            ∗ (bigSep (Finset.univ : Finset (Fin 3 × Fin 4)) fun p => room true (dst true c) p.1.val p.2)) := by
  have h := wait_spec X W K N c kBar 1 0 (2#32).toInt.toNat l
    (wpE_semWait_eq (defs := defs₀ (F := F)) 𝒱₀ (c : Thread nD τ) none Set.univ (sem := barSem)) (by decide) (by omega) hl
  have e : dutiesOf kBar 0 = insert 0 {1} := rfl
  have e' : (bigSep (dutiesOf kBar 0) fun d => payOf X W c kBar 0 d)
      = iprop((bigSep (Finset.univ : Finset (Fin 3 × Fin 4)) fun p => room false (dst false c) p.1.val p.2)
            ∗ (bigSep (Finset.univ : Finset (Fin 3 × Fin 4)) fun p => room true (dst true c) p.1.val p.2)) := by
    rw [e, big_insert (by decide), bigSep_singleton]; rfl
  rw [e'] at h
  exact h

/-! ### Credits -/

theorem credit_spec (ρ : Bool) (c : Dev nD) (k : ℕ) (hk : k ≤ 10) (l : List Debt) :
    iprop(ctx X W K N ∗ reached ER (cell (src ρ c) (kC ρ)) 0 ∗ dutyTok ER (cell (src ρ c) (kC ρ)) 0 k
        ∗ atPos ER (gave ρ c) k ∅ 0 ∗ rooms ρ c (k + 3) ∗ owesL c (.credit ρ k :: l))
      ⊢ WP c (semSignalWord (src ρ c) (csem ρ).sem 1#32) fun _ => iprop(owesL c l ∗ atPos ER (gave ρ c) (k + 1) ∅ 0) := by
  have h1 : k ∈ (Rd X W).duties (cell (src ρ c) (kC ρ)) 0 := by rw [Rd_duties]; exact Finset.mem_range.mpr (by omega)
  have h2 : (Rd X W).amount (cell (src ρ c) (kC ρ)) 0 k = (1#32).toInt.toNat := (Rd_amount X W _ _ _ _).trans (by show 1 = _; decide)
  have h3 : (Rd X W).payload (cell (src ρ c) (kC ρ)) 0 k = reached ER (gave ρ c) (k + 1) := by
    rw [Rd_payload]; dsimp only [payOf]; rw [dst_src]
  have h4 : dues c (.credit ρ k :: l) = dues c l + tallyAt (cell (src ρ c) (kC ρ)) (2 * k + 3) (1#32).toInt.toNat := dues_cons c _ l
  iintro ⟨#Hctx, #Hr, Ht, Hat, Hroom, Ho⟩
  ihave #Hc := (ctx_cell X W K N (src ρ c) (kC ρ)) $$ Hctx
  ihave #Hpool := (ctx_pool X W K N c ρ) $$ Hctx
  imod (pool_put ρ c (N (c, ρ)) k) $$ [Hat Hroom] with ⟨Hat, Hw⟩
  · isplitr; · iexact Hpool
    isplitl [Hat] <;> iassumption
  unfold owesL
  icases Ho with ⟨%V, Ho⟩
  simp only [semSignalWord, Prog.lift]
  iapply (Rounds.wp_signal 𝒱₀ ER (Rd X W) (c : Thread nD τ) none (dst := (src ρ c : Thread nD τ)) (sem := (csem ρ).sem) (κ := K (src ρ c, kC ρ))
      (r := 0) (d := k) h1 h2 (2 * k + 3) (dues c l) h4 (W := V)) $$ [Ho Ht Hw]
  · isplitr; · iexact Hc
    isplitl [Ho]; · iexact Ho
    isplitl [Ht]; · iexact Ht
    isplitl [Hw]; · iapply (Entails.of_eq h3.symm) $$ Hw
    iexact Hr
  iintro Ho
  rw [wp_ret]; imodintro
  isplitl [Ho]; · iexists V; iexact Ho
  iexact Hat

/-- `k` credits seen: as many at least have come, each saying how far the count was. -/
def seen (ρ : Bool) (c : Dev nD) (k : ℕ) : sProp 𝕄 :=
  iprop(∃ T : Finset ℕ, ⌜T ⊆ Finset.range 11 ∧ k ≤ T.card⌝ ∗ atPos ER (cell c (kC ρ)) 0 T k
    ∗ bigSep T fun j => reached ER (gave ρ (dst ρ c)) (j + 1))

/-- Among `k` numbers there is one that is at least `k - 1`. -/
theorem exists_large {T : Finset ℕ} {k : ℕ} (h : k + 1 ≤ T.card) : ∃ j ∈ T, k ≤ j := by
  by_contra hc
  have hc : ∀ j ∈ T, j < k := fun j hj => Nat.lt_of_not_le fun h' => hc ⟨j, hj, h'⟩
  have : T ⊆ Finset.range k := fun j hj => Finset.mem_range.mpr (hc j hj)
  have := Finset.card_le_card this
  rw [Finset.card_range] at this; omega

theorem seen_spec (ρ : Bool) (c : Dev nD) (k : ℕ) (hk : k ≤ 10) (l : List Debt) (hl : ∀ j ∈ l, 2 * k + 3 < level j ∧ level j < 64) :
    iprop(ctx X W K N ∗ seen ρ c k ∗ dutyTok ER (gave ρ (dst ρ c)) k 0 ∗ cred (tallyAt (cell c (kC ρ)) (2 * k + 3) 1) ∗ owesL c l)
      ⊢ WP c (semWaitWord (csem ρ).sem 1#32) fun _ => iprop(owesL c l ∗ seen ρ c (k + 1) ∗ rooms ρ (dst ρ c) (k + 3)) := by
  have hd : (Rd X W).duties (cell c (kC ρ)) 0 = Finset.range 11 := by rw [Rd_duties]; rfl
  have he : (Rd X W).expect (cell c (kC ρ)) 0 = 11 := by rw [Rd_expect]; rfl
  have hp (d : ℕ) : (Rd X W).payload (cell c (kC ρ)) 0 d = reached ER (gave ρ (dst ρ c)) (d + 1) := by rw [Rd_payload]; rfl
  unfold seen
  iintro ⟨#Hctx, ⟨%T, %hT, Hat, #Hs⟩, Ht, Hcr, Ho⟩
  ihave #Hc := (ctx_cell X W K N c (kC ρ)) $$ Hctx
  ihave #Hlev := (ctx_lev X W K N) $$ Hctx
  ihave #Hpool := (ctx_pool X W K N (dst ρ c) ρ) $$ Hctx
  unfold owesL
  icases Ho with ⟨%V, Ho⟩
  simp only [semWaitWord, Prog.lift]
  iapply (Rounds.wp_wait 𝒱₀ ER (Rd X W) (c : Thread nD τ) none (sm := .reg (csem ρ).sem) (κ := K (c, kC ρ)) (k' := 1)
    (wpE_semWait_eq 𝒱₀ (c : Thread nD τ) none Set.univ) (Set.mem_univ _) (cr := Finsupp.single (2 * k + 3) 1) (O := dues c l) (W := V)
    {(SemLoc.reg (csem ρ).sem, 2 * k + 3)} (R := 0) (m := k) (T := T) (by simp) (image_single_subset _ _ _)) $$ [Hat Hcr Ho]
  · isplitr; · iexact Hc
    isplitl [Hcr]; · iexact Hcr
    isplitl [Ho]; · iexact Ho
    isplitr; · iapply (mayWait c (.reg (csem ρ).sem) (2 * k + 3) l (by omega) hl) $$ Hlev
    iexact Hat
  iintro %S ⟨%hS, Ho, Hat, Hn⟩
  rw [hd, he] at hS
  obtain ⟨hTS, hSR, hcard⟩ := hS
  have hSc : k + 1 ≤ S.card := by
    rw [Finset.card_sdiff_of_subset hSR, Finset.card_range] at hcard
    have := Finset.card_le_card hSR
    rw [Finset.card_range] at this; omega
  obtain ⟨j, hj, hkj⟩ := exists_large hSc
  have hu : iprop((bigSep (S \ T) fun d => (Rd X W).payload (cell c (kC ρ)) 0 d) ∗ (bigSep T fun j => reached ER (gave ρ (dst ρ c)) (j + 1)))
      = bigSep S fun j => reached ER (gave ρ (dst ρ c)) (j + 1) := by
    rw [bigSep_congr fun d _ => hp d]
    refine (bigSep_union Finset.sdiff_disjoint).symm.trans ?_
    rw [Finset.sdiff_union_of_subset hTS]
  ihave #HS := (Entails.of_eq hu) $$ [Hn]
  · isplitl [Hn]
    · iexact Hn
    iexact Hs
  ihave #Hj := (big_elim (Φ := fun j => reached ER (gave ρ (dst ρ c)) (j + 1)) hj) $$ HS
  ihave #Hk := (reached_mono ER (Nat.succ_le_succ hkj)) $$ Hj
  imod (pool_take ρ (dst ρ c) (N (dst ρ c, ρ)) k) $$ [Ht] with Hroom
  · isplitr; · iexact Hpool
    isplitl [Ht]; · iexact Ht
    iexact Hk
  rw [wp_ret]; imodintro
  isplitl [Ho]; · iexists _; iexact Ho
  isplitl [Hat]
  · iexists S
    isplitr; · ipureintro; exact ⟨hSR, hSc⟩
    isplitl [Hat]; · iexact Hat
    iexact HS
  iexact Hroom

end Cert.KernelIdeal.Ring
-- ==== Proof.Flow.lean ====
/-
  One quarter of one direction, through one step: before it has arrived, with it at hand, sent on, and with the slot it came from
  free again.
-/
module

public import proofs.«01_k».proof.Proof.Signals

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### Sequencing -/

theorem seq_spec {c : Dev nD} {α β : Type} {P : sProp 𝕄} {Q : α → sProp 𝕄} {R : β → sProp 𝕄} {p : Pr F α} {k : α → Pr F β}
    (h : P ⊢ WP c p Q) : P ⊢ iprop((∀ a, Q a -∗ WP c (k a) R) -∗ WP c (p >>= k) R) := by
  rw [WP, wp_bind]
  exact h.trans (wp_wand _ _ _)
theorem last_spec {c : Dev nD} {α : Type} {P : sProp 𝕄} {Q R : α → sProp 𝕄} {p : Pr F α}
    (h : P ⊢ WP c p Q) : P ⊢ iprop((∀ a, Q a -∗ R a) -∗ WP c p R) :=
  h.trans (wp_wand _ _ _)

/-- All that is owed lies above level `n`. -/
def above (n : ℕ) (l : List Debt) : Prop := ∀ j ∈ l, n < level j ∧ level j < 64
theorem above_app {n : ℕ} {a l : List Debt} (h : above n (a ++ l)) : above n l := fun j hj => h j (List.mem_append_right a hj)
theorem above_mono {n n' : ℕ} {l : List Debt} (hn : n' ≤ n) (h : above n l) : above n' l :=
  fun j hj => ⟨Nat.lt_of_le_of_lt hn (h j hj).1, (h j hj).2⟩

/-! ### States -/

/-- The device's place at the semaphore of the send of time `t`, and of the arrival of time `t`. -/
def posS (ρ : Bool) (c : Dev nD) (i : Fin 4) (t : ℕ) : sProp 𝕄 := pos c (kS ρ (slot t) i) (t / 4)
def posR (ρ : Bool) (c : Dev nD) (i : Fin 4) (t : ℕ) : sProp 𝕄 := pos c (kR ρ (slot (t + 1)) i) (t / 4)
/-- Its places at the four sends, or arrivals, that come next. -/
def winS (ρ : Bool) (c : Dev nD) (i : Fin 4) (t : ℕ) : sProp 𝕄 :=
  iprop(posS ρ c i t ∗ posS ρ c i (t + 1) ∗ posS ρ c i (t + 2) ∗ posS ρ c i (t + 3))
def winR (ρ : Bool) (c : Dev nD) (i : Fin 4) (t : ℕ) : sProp 𝕄 :=
  iprop(posR ρ c i t ∗ posR ρ c i (t + 1) ∗ posR ρ c i (t + 2) ∗ posR ρ c i (t + 3))

theorem posS_four (ρ : Bool) (c : Dev nD) (i : Fin 4) (t : ℕ) : pos (F := F) c (kS ρ (slot t) i) (t / 4 + 1) = posS ρ c i (t + 4) := by
  unfold posS
  rw [show slot (t + 4) = slot t from Fin.ext (Nat.add_mod_right t 4), show (t + 4) / 4 = t / 4 + 1 from Nat.add_div_right t (by decide)]
theorem posR_four (ρ : Bool) (c : Dev nD) (i : Fin 4) (t : ℕ) : pos (F := F) c (kR ρ (slot (t + 1)) i) (t / 4 + 1) = posR ρ c i (t + 4) := by
  unfold posR
  rw [show slot (t + 4 + 1) = slot (t + 1) from Fin.ext (by show (t + 4 + 1) % 4 = (t + 1) % 4; omega),
    show (t + 4) / 4 = t / 4 + 1 from Nat.add_div_right t (by decide)]

/-- The right to the sends from time `t` on. -/
def toks (ρ : Bool) (c : Dev nD) (i : Fin 4) (t : ℕ) : sProp 𝕄 :=
  bigSep (Finset.Ico t 14) fun t => iprop(dutyTok ER (cell c (kS ρ (slot t) i)) (t / 4) 0
    ∗ dutyTok ER (cell (dst ρ c) (kR ρ (slot (t + 1)) i)) (t / 4) 0)
/-- That the arrivals from time `t` on are owed. -/
def creds (ρ : Bool) (c : Dev nD) (i : Fin 4) (t : ℕ) : sProp 𝕄 :=
  bigSep (Finset.Ico t 14) fun t => cred (tallyAt (cell c (kR ρ (slot (t + 1)) i)) (2 * t + 2) NQ)
/-- The send of time `t` under way; at the end of time nothing is sent. -/
def inFl (ρ : Bool) (c : Dev nD) (i : Fin 4) (t : ℕ) : sProp 𝕄 :=
  if t ≤ 13 then cred (tallyAt (cell c (kS ρ (slot t) i)) 0 NQ)
  else owns (c : Thread nD τ) (quarter (comm ρ) (slot t) i) fullShare.left (Y X W ρ t c i)
theorem inFl_le {ρ : Bool} {c : Dev nD} {i : Fin 4} {t : ℕ} (h : t ≤ 13) :
    inFl X W ρ c i t = cred (tallyAt (cell c (kS ρ (slot t) i)) 0 NQ) := if_pos h
/-- The share of a quarter that is not lent to its send, and the one that is. -/
def keptHalf (ρ : Bool) (c : Dev nD) (i : Fin 4) (t : ℕ) : sProp 𝕄 :=
  owns (c : Thread nD τ) (quarter (comm ρ) (slot t) i) fullShare.right (Y X W ρ t c i)
def lentHalf (ρ : Bool) (c : Dev nD) (i : Fin 4) (t : ℕ) : sProp 𝕄 :=
  owns (c : Thread nD τ) (quarter (comm ρ) (slot t) i) fullShare.left (Y X W ρ t c i)
def whole (ρ : Bool) (c : Dev nD) (i : Fin 4) (t : ℕ) : sProp 𝕄 :=
  owns (c : Thread nD τ) (quarter (comm ρ) (slot t) i) fullShare (Y X W ρ t c i)
theorem whole_halves (ρ : Bool) (c : Dev nD) (i : Fin 4) (t : ℕ) :
    whole X W ρ c i t ⊢ iprop(lentHalf X W ρ c i t ∗ keptHalf X W ρ c i t) := by
  unfold whole lentHalf keptHalf; exact (owns_halves _ _ _ _).1
theorem halves_whole (ρ : Bool) (c : Dev nD) (i : Fin 4) (t : ℕ) :
    iprop(lentHalf X W ρ c i t ∗ keptHalf X W ρ c i t) ⊢ whole X W ρ c i t := by
  unfold whole lentHalf keptHalf; exact (owns_halves _ _ _ _).2

theorem inFl_end (ρ : Bool) (c : Dev nD) (i : Fin 4) : inFl X W ρ c i 14 = lentHalf X W ρ c i 14 := if_neg (by decide)

/-- Before the arrival of time `t`. -/
def stA (ρ : Bool) (c : Dev nD) (t : ℕ) (i : Fin 4) : sProp 𝕄 :=
  iprop(inFl X W ρ c i t ∗ winS ρ c i t ∗ winR ρ c i t ∗ toks ρ c i (t + 1) ∗ creds ρ c i t)
/-- With what is to be sent at time `t + 1` at hand. -/
def stB (ρ : Bool) (c : Dev nD) (t : ℕ) (i : Fin 4) : sProp 𝕄 :=
  iprop(inFl X W ρ c i t ∗ winS ρ c i t ∗ winR ρ c i (t + 1) ∗ toks ρ c i (t + 1) ∗ creds ρ c i (t + 1) ∗ whole X W ρ c i (t + 1))
/-- With that sent. -/
def stC (ρ : Bool) (c : Dev nD) (t : ℕ) (i : Fin 4) : sProp 𝕄 :=
  iprop(inFl X W ρ c i t ∗ winS ρ c i t ∗ winR ρ c i (t + 1) ∗ toks ρ c i (t + 2) ∗ creds ρ c i (t + 1)
    ∗ inFl X W ρ c i (t + 1) ∗ keptHalf X W ρ c i (t + 1))
/-- With the send of time `t` complete. -/
def stD (ρ : Bool) (c : Dev nD) (t : ℕ) (i : Fin 4) : sProp 𝕄 :=
  iprop(stA X W ρ c (t + 1) i ∗ keptHalf X W ρ c i (t + 1) ∗ lentHalf X W ρ c i t)

/-- Room for the send of time `t`, if there is one. -/
def roomAt (ρ : Bool) (c : Dev nD) (t : ℕ) (i : Fin 4) : sProp 𝕄 := if t ≤ 13 then room ρ (dst ρ c) t i else iprop(emp)
/-- What is owed for quarter `i` at step `t`. -/
def pair (t : ℕ) (i : Fin 4) : List Debt := if t ≤ 12 then [.send false (t + 1) i, .send true (t + 1) i] else []

/-! ### Arrivals -/

theorem arrive (ρ : Bool) (c : Dev nD) (t : ℕ) (ht : t ≤ 13) (i : Fin 4) (l : List Debt) (hl : above (2 * t + 2) l) :
    iprop(ctx X W K N ∗ stA X W ρ c t i ∗ owesL c l)
      ⊢ WP c (recvWait (comm ρ) (rsem ρ) t i) fun _ => iprop(owesL c l
          ∗ (inFl X W ρ c i t ∗ winS ρ c i t ∗ winR ρ c i (t + 1) ∗ toks ρ c i (t + 1) ∗ creds ρ c i (t + 1))
          ∗ owns (c : Thread nD τ) (quarter (comm ρ) (slot (t + 1)) i) fullShare (Y X W ρ t (src ρ c) i)) := by
  unfold stA winR creds
  iintro ⟨#Hctx, ⟨H1, H2, ⟨Hp, Hp1, Hp2, Hp3⟩, H4, Hc⟩, Ho⟩
  ihave Hc := (Entails.of_eq (big_from (by omega : t < 14))) $$ Hc
  icases Hc with ⟨Hc0, Hc⟩
  iapply (last_spec (recv_spec X W K N ρ c t ht i l hl)) $$ [Hp Hc0 Ho]
  · isplitr; · iexact Hctx
    isplitl [Hp]; · unfold posR; iexact Hp
    isplitl [Hc0]; · iexact Hc0
    iexact Ho
  iintro %_ ⟨Ho, Hp4, Hq⟩
  isplitl [Ho]; · iexact Ho
  isplitr [Hq]
  · isplitl [H1]; · iexact H1
    isplitl [H2]; · iexact H2
    isplitl [Hp1 Hp2 Hp3 Hp4]
    · isplitl [Hp1]; · iexact Hp1
      isplitl [Hp2]; · iexact Hp2
      isplitl [Hp3]; · iexact Hp3
      iapply (Entails.of_eq (posR_four ρ c i t)) $$ Hp4
    isplitl [H4] <;> iassumption
  iexact Hq

/-- An arrival while the sums are passed round. -/
theorem arrive_pass (ρ : Bool) (c : Dev nD) (t : ℕ) (h7 : 7 ≤ t) (ht : t ≤ 13) (i : Fin 4) (l : List Debt) (hl : above (2 * t + 2) l) :
    iprop(ctx X W K N ∗ stA X W ρ c t i ∗ owesL c l)
      ⊢ WP c (recvWait (comm ρ) (rsem ρ) t i) fun _ => iprop(stB X W ρ c t i ∗ owesL c l) := by
  have hY : Y X W ρ t (src ρ c) i = Y X W ρ (t + 1) c i := by rw [Y, dif_neg (by omega)]
  iintro H
  iapply (last_spec (arrive X W K N ρ c t ht i l hl)) $$ H
  iintro %_ ⟨Ho, ⟨H1, H2, H3, H4, H5⟩, Hq⟩
  isplitr [Ho]
  · unfold stB whole
    isplitl [H1]; · iexact H1
    isplitl [H2]; · iexact H2
    isplitl [H3]; · iexact H3
    isplitl [H4]; · iexact H4
    isplitl [H5]; · iexact H5
    iapply (Entails.of_eq (congrArg (owns (c : Thread nD τ) (quarter (comm ρ) (slot (t + 1)) i) fullShare) hY)) $$ Hq
  iexact Ho

/-- An arrival while the sums are formed. -/
theorem arrive_sum (ρ : Bool) (c : Dev nD) (r : Fin 7) (i : Fin 4) (l : List Debt) (hl : above (2 * r.val + 2) l) :
    iprop(ctx X W K N ∗ stA X W ρ c r.val i ∗ owesL c l)
      ⊢ WP c (takeQ (comm ρ) (rsem ρ) r.val i (part X W ρ c r)) fun _ => iprop(stB X W ρ c r.val i ∗ owesL c l) := by
  have hY : shapeCast S128x1024 (accVal r.val i (part X W ρ c r) (shapeCast S1x128x1024 (Y X W ρ r.val (src ρ c) i) shapeCasts_S128x1024_S1x128x1024))
        shapeCasts_S1x128x1024_S128x1024 = Y X W ρ (r.val + 1) c i := by rw [Y, dif_pos r.isLt]
  iintro H
  iapply (seq_spec (arrive X W K N ρ c r.val (by omega) i l hl)) $$ H
  iintro %_ ⟨Ho, ⟨H1, H2, H3, H4, H5⟩, Hq⟩
  iapply (seq_spec (loadQ_spec ρ c (slot (r.val + 1)) i _)) $$ Hq
  iintro %v ⟨%hv, Hq⟩
  subst hv
  iapply (seq_spec (loadQ_spec ρ c (slot (r.val + 1)) i _)) $$ Hq
  iintro %v ⟨-, Hq⟩
  iapply (last_spec (storeQ_spec ρ c (slot (r.val + 1)) i _ _)) $$ Hq
  iintro %_ Hq
  isplitr [Ho]
  · unfold stB whole
    isplitl [H1]; · iexact H1
    isplitl [H2]; · iexact H2
    isplitl [H3]; · iexact H3
    isplitl [H4]; · iexact H4
    isplitl [H5]; · iexact H5
    iapply (Entails.of_eq (congrArg (owns (c : Thread nD τ) (quarter (comm ρ) (slot (r.val + 1)) i) fullShare) hY)) $$ Hq
  iexact Ho

/-! ### Sends -/

theorem send_step (ρ : Bool) (c : Dev nD) (t : ℕ) (ht : t ≤ 12) (i : Fin 4) (l : List Debt) :
    iprop(ctx X W K N ∗ stB X W ρ c t i ∗ roomAt ρ c (t + 1) i ∗ owesL c (.send ρ (t + 1) i :: l))
      ⊢ WP c (send (comm ρ) (ssem ρ) (rsem ρ) (dst ρ c) (t + 1) i) fun _ => iprop(stC X W ρ c t i ∗ owesL c l) := by
  unfold stB roomAt winS toks
  rw [if_pos (by omega)]
  iintro ⟨#Hctx, ⟨H1, ⟨Hp0, Hp1, Hp2, Hp3⟩, H3, H4, H5, Hw⟩, Hr, Ho⟩
  ihave Ht := (Entails.of_eq (big_from (by omega : t + 1 < 14))) $$ H4
  icases Ht with ⟨⟨Ht1, Ht2⟩, H4⟩
  ihave Hh := (whole_halves X W ρ c i (t + 1)) $$ Hw
  icases Hh with ⟨Hl, Hk⟩
  unfold posS pos
  icases Hp1 with ⟨Hp1, #Hrs⟩
  iapply (last_spec (send_spec X W K N ρ c (t + 1) (by omega) i l)) $$ [Hl Hr Ht1 Ht2 Ho]
  · isplitr; · iexact Hctx
    isplitl [Hl]; · unfold lentHalf; iexact Hl
    isplitl [Hr]; · iexact Hr
    isplitr; · iexact Hrs
    isplitl [Ht1]; · iexact Ht1
    isplitl [Ht2]; · iexact Ht2
    iexact Ho
  iintro %_ ⟨Hc, Ho⟩
  isplitr [Ho]
  · unfold stC winS toks posS pos
    isplitl [H1]; · iexact H1
    isplitl [Hp0 Hp1 Hp2 Hp3]
    · isplitl [Hp0]; · iexact Hp0
      isplitl [Hp1]
      · isplitl [Hp1]; · iexact Hp1
        iexact Hrs
      isplitl [Hp2] <;> iassumption
    isplitl [H3]; · iexact H3
    isplitl [H4]; · iexact H4
    isplitl [H5]; · iexact H5
    isplitl [Hc]
    · iapply (Entails.of_eq (inFl_le X W (by omega)).symm) $$ Hc
    iexact Hk
  iexact Ho

theorem send_none (ρ : Bool) (c : Dev nD) (t : ℕ) (ht : t = 13) (i : Fin 4) : stB X W ρ c t i ⊢ stC X W ρ c t i := by
  subst ht
  have hT : toks (F := F) ρ c i (13 + 1) = toks ρ c i (13 + 2) := by
    unfold toks; rw [show Finset.Ico (13 + 2) 14 = Finset.Ico (13 + 1) 14 from rfl]
  unfold stB stC
  rw [hT]
  iintro ⟨H1, H2, H3, H4, H5, Hw⟩
  ihave Hh := (whole_halves X W ρ c i 14) $$ Hw
  icases Hh with ⟨Hl, Hk⟩
  isplitl [H1]; · iexact H1
  isplitl [H2]; · iexact H2
  isplitl [H3]; · iexact H3
  isplitl [H4]; · iexact H4
  isplitl [H5]; · iexact H5
  isplitl [Hl]
  · iapply (Entails.of_eq (inFl_end X W ρ c i).symm) $$ Hl
  iexact Hk

theorem send_both (c : Dev nD) (t : ℕ) (ht : t ≤ 13) (i : Fin 4) (l : List Debt) :
    iprop(ctx X W K N ∗ stB X W false c t i ∗ stB X W true c t i ∗ roomAt false c (t + 1) i ∗ roomAt true c (t + 1) i
        ∗ owesL c (pair t i ++ l))
      ⊢ WP c (forward (comm false) (comm true) (ssem false) (rsem false) (ssem true) (rsem true) c t i) fun _ =>
          iprop(stC X W false c t i ∗ stC X W true c t i ∗ owesL c l) := by
  iintro ⟨#Hctx, Ha, Hb, Hra, Hrb, Ho⟩
  by_cases h : t ≤ 12
  · unfold forward pair
    rw [if_pos h, if_pos h]
    iapply (seq_spec (send_step X W K N false c t h i (.send true (t + 1) i :: l))) $$ [Ha Hra Ho]
    · isplitr; · iexact Hctx
      isplitl [Ha]; · iexact Ha
      isplitl [Hra]; · iexact Hra
      iexact Ho
    iintro %_ ⟨Ha, Ho⟩
    iapply (last_spec (send_step X W K N true c t h i l)) $$ [Hb Hrb Ho]
    · isplitr; · iexact Hctx
      isplitl [Hb]; · iexact Hb
      isplitl [Hrb] <;> iassumption
    iintro %_ ⟨Hb, Ho⟩
    isplitl [Ha]; · iexact Ha
    isplitl [Hb] <;> iassumption
  · unfold forward pair
    rw [if_neg h, if_neg h]
    simp only [Prog.pure_eq_ret]
    rw [WP, wp_ret]; imodintro
    isplitl [Ha]; · iapply (send_none X W false c t (by omega) i) $$ Ha
    isplitl [Hb]; · iapply (send_none X W true c t (by omega) i) $$ Hb
    iexact Ho

theorem left_step (ρ : Bool) (c : Dev nD) (t : ℕ) (ht : t ≤ 13) (i : Fin 4) (l : List Debt) (hl : above 0 l) :
    iprop(ctx X W K N ∗ stC X W ρ c t i ∗ owesL c l)
      ⊢ WP c (sendWait (comm ρ) (ssem ρ) t i) fun _ => iprop(stD X W ρ c t i ∗ owesL c l) := by
  unfold stC winS
  iintro ⟨#Hctx, ⟨H1, ⟨Hp0, Hp1, Hp2, Hp3⟩, H3, H4, H5, H6, Hk⟩, Ho⟩
  iapply (last_spec (sent_spec X W K N ρ c t ht i l hl)) $$ [Hp0 H1 Ho]
  · isplitr; · iexact Hctx
    isplitl [Hp0]; · unfold posS; iexact Hp0
    isplitl [H1]; · iapply (Entails.of_eq (inFl_le X W ht)) $$ H1
    iexact Ho
  iintro %_ ⟨Ho, Hp4, Hl⟩
  isplitr [Ho]
  · unfold stD stA winS
    isplitr [Hk Hl]
    · isplitl [H6]; · iexact H6
      isplitl [Hp1 Hp2 Hp3 Hp4]
      · isplitl [Hp1]; · iexact Hp1
        isplitl [Hp2]; · iexact Hp2
        isplitl [Hp3]; · iexact Hp3
        iapply (Entails.of_eq (posS_four ρ c i t)) $$ Hp4
      isplitl [H3]; · iexact H3
      isplitl [H4] <;> iassumption
    isplitl [Hk]; · iexact Hk
    unfold lentHalf; iexact Hl
  iexact Ho

end Cert.KernelIdeal.Ring
-- ==== Proof.Turn.lean ====
/-
  Both directions through one step: the four quarters of each, the credits that come in and go out, and the slots that are free again.
-/
module

public import proofs.«01_k».proof.Proof.Flow

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

theorem fin4 (Φ : Fin 4 → sProp 𝕄) : bigSep Finset.univ Φ = iprop(Φ 0 ∗ Φ 1 ∗ Φ 2 ∗ Φ 3) := by
  rw [bigSep_univ_eq_bigSepL [0, 1, 2, 3] (by decide) (by decide) Φ]; rfl

/-! ### What is owed -/

/-- The credits owed at step `t`. -/
def lent (t : ℕ) : List Debt := if t ≤ 10 then [.credit false t, .credit true t] else []
/-- What is owed over `n` steps from step `t` on. -/
def owedFor : ℕ → ℕ → List Debt
  | 0, _ => []
  | n + 1, t => pair t 0 ++ (pair t 1 ++ (pair t 2 ++ (pair t 3 ++ (lent t ++ owedFor n (t + 1)))))
def owed (t : ℕ) : List Debt := owedFor (14 - t) t
theorem owed_step {t : ℕ} (h : t ≤ 13) :
    owed t = pair t 0 ++ (pair t 1 ++ (pair t 2 ++ (pair t 3 ++ (lent t ++ owed (t + 1))))) := by
  unfold owed
  rw [show 14 - t = (14 - (t + 1)) + 1 from by omega, owedFor]
theorem owed_end : owed 14 = [] := rfl

theorem above_pair (t : ℕ) (i : Fin 4) : above (2 * t + 2) (pair t i) := by
  intro j hj
  unfold pair at hj
  split at hj
  · rcases List.mem_cons.mp hj with rfl | hj
    · exact ⟨by dsimp only [level]; omega, by dsimp only [level]; omega⟩
    rcases List.mem_cons.mp hj with rfl | hj
    · exact ⟨by dsimp only [level]; omega, by dsimp only [level]; omega⟩
    exact absurd hj List.not_mem_nil
  · exact absurd hj List.not_mem_nil
theorem above_gives (t : ℕ) : above (2 * t + 2) (lent t) := by
  intro j hj
  unfold lent at hj
  split at hj
  · rcases List.mem_cons.mp hj with rfl | hj
    · exact ⟨by dsimp only [level]; omega, by dsimp only [level]; omega⟩
    rcases List.mem_cons.mp hj with rfl | hj
    · exact ⟨by dsimp only [level]; omega, by dsimp only [level]; omega⟩
    exact absurd hj List.not_mem_nil
  · exact absurd hj List.not_mem_nil
theorem above_both {n : ℕ} {a l : List Debt} (h : above n a) (h' : above n l) : above n (a ++ l) := fun j hj =>
  (List.mem_append.mp hj).elim (h j) (h' j)
theorem above_owedFor (n t : ℕ) : above (2 * t + 2) (owedFor n t) := by
  induction n generalizing t with
  | zero => exact fun j hj => absurd hj List.not_mem_nil
  | succ n ih =>
    rw [owedFor]
    exact above_both (above_pair t 0) (above_both (above_pair t 1) (above_both (above_pair t 2) (above_both (above_pair t 3)
      (above_both (above_gives t) (above_mono (by omega) (ih (t + 1)))))))
theorem above_owed (t : ℕ) : above (2 * t + 2) (owed t) := above_owedFor _ t

/-! ### The four quarters -/

def both (Φ : Bool → sProp 𝕄) : sProp 𝕄 := iprop(Φ false ∗ Φ true)
def four (Φ : Fin 4 → sProp 𝕄) : sProp 𝕄 := bigSep Finset.univ Φ

/-- The shape of a step's quarters. -/
def quartersOf (ta tb : Fin 4 → Pr F PUnit) (cr : Pr F PUnit) (fw : Fin 4 → Pr F PUnit) : Pr F PUnit := do
  ta 0
  tb 0
  cr
  fw 0
  ta 1
  tb 1
  fw 1
  ta 2
  tb 2
  fw 2
  ta 3
  tb 3
  fw 3

theorem quarters_spec (c : Dev nD) (t : ℕ) (ht : t ≤ 13) (ta tb : Fin 4 → Pr F PUnit) (cr : Pr F PUnit) (Pc Qc : sProp 𝕄)
    (ha : ∀ i l, above (2 * t + 2) l →
      iprop(ctx X W K N ∗ stA X W false c t i ∗ owesL c l) ⊢ WP c (ta i) fun _ => iprop(stB X W false c t i ∗ owesL c l))
    (hb : ∀ i l, above (2 * t + 2) l →
      iprop(ctx X W K N ∗ stA X W true c t i ∗ owesL c l) ⊢ WP c (tb i) fun _ => iprop(stB X W true c t i ∗ owesL c l))
    (hc : ∀ l, above (2 * t + 2) l → iprop(ctx X W K N ∗ Pc ∗ owesL c l) ⊢ WP c cr fun _ =>
      iprop(Qc ∗ four (roomAt false c (t + 1)) ∗ four (roomAt true c (t + 1)) ∗ owesL c l))
    (l : List Debt) (hl : above (2 * t + 2) (pair t 0 ++ (pair t 1 ++ (pair t 2 ++ (pair t 3 ++ l))))) :
    iprop(ctx X W K N ∗ four (stA X W false c t) ∗ four (stA X W true c t) ∗ Pc
        ∗ owesL c (pair t 0 ++ (pair t 1 ++ (pair t 2 ++ (pair t 3 ++ l)))))
      ⊢ WP c (quartersOf ta tb cr fun i => forward (comm false) (comm true) (ssem false) (rsem false) (ssem true) (rsem true) c t i) fun _ =>
          iprop(four (stC X W false c t) ∗ four (stC X W true c t) ∗ Qc ∗ owesL c l) := by
  have hl1 := above_app hl
  have hl2 := above_app hl1
  have hl3 := above_app hl2
  unfold four quartersOf
  iintro ⟨#Hctx, HA, HB, Hc, Ho⟩
  ihave HA := (Entails.of_eq (fin4 _)) $$ HA
  ihave HB := (Entails.of_eq (fin4 _)) $$ HB
  icases HA with ⟨A0, A1, A2, A3⟩
  icases HB with ⟨B0, B1, B2, B3⟩
  iapply (seq_spec (ha 0 _ hl)) $$ [$A0 $Ho]
  · iexact Hctx
  iintro %_ ⟨A0, Ho⟩
  iapply (seq_spec (hb 0 _ hl)) $$ [$B0 $Ho]
  · iexact Hctx
  iintro %_ ⟨B0, Ho⟩
  iapply (seq_spec (hc _ hl)) $$ [$Hc $Ho]
  · iexact Hctx
  iintro %_ ⟨Hc, RA, RB, Ho⟩
  unfold four
  ihave RA := (Entails.of_eq (fin4 _)) $$ RA
  ihave RB := (Entails.of_eq (fin4 _)) $$ RB
  icases RA with ⟨RA0, RA1, RA2, RA3⟩
  icases RB with ⟨RB0, RB1, RB2, RB3⟩
  iapply (seq_spec (send_both X W K N c t ht 0 _)) $$ [$A0 $B0 $RA0 $RB0 $Ho]
  · iexact Hctx
  iintro %_ ⟨A0, B0, Ho⟩
  iapply (seq_spec (ha 1 _ hl1)) $$ [$A1 $Ho]
  · iexact Hctx
  iintro %_ ⟨A1, Ho⟩
  iapply (seq_spec (hb 1 _ hl1)) $$ [$B1 $Ho]
  · iexact Hctx
  iintro %_ ⟨B1, Ho⟩
  iapply (seq_spec (send_both X W K N c t ht 1 _)) $$ [$A1 $B1 $RA1 $RB1 $Ho]
  · iexact Hctx
  iintro %_ ⟨A1, B1, Ho⟩
  iapply (seq_spec (ha 2 _ hl2)) $$ [$A2 $Ho]
  · iexact Hctx
  iintro %_ ⟨A2, Ho⟩
  iapply (seq_spec (hb 2 _ hl2)) $$ [$B2 $Ho]
  · iexact Hctx
  iintro %_ ⟨B2, Ho⟩
  iapply (seq_spec (send_both X W K N c t ht 2 _)) $$ [$A2 $B2 $RA2 $RB2 $Ho]
  · iexact Hctx
  iintro %_ ⟨A2, B2, Ho⟩
  iapply (seq_spec (ha 3 _ hl3)) $$ [$A3 $Ho]
  · iexact Hctx
  iintro %_ ⟨A3, Ho⟩
  iapply (seq_spec (hb 3 _ hl3)) $$ [$B3 $Ho]
  · iexact Hctx
  iintro %_ ⟨B3, Ho⟩
  iapply (last_spec (send_both X W K N c t ht 3 _)) $$ [$A3 $B3 $RA3 $RB3 $Ho]
  · iexact Hctx
  iintro %_ ⟨A3, B3, Ho⟩
  isplitl [A0 A1 A2 A3]
  · iapply (Entails.of_eq (fin4 _).symm) $$ [A0 A1 A2 A3]
    iframe A0 A1 A2 A3
  isplitl [B0 B1 B2 B3]
  · iapply (Entails.of_eq (fin4 _).symm) $$ [B0 B1 B2 B3]
    iframe B0 B1 B2 B3
  iframe Hc Ho

theorem sentAll_spec (c : Dev nD) (t : ℕ) (ht : t ≤ 13) (l : List Debt) (hl : above 0 l) :
    iprop(ctx X W K N ∗ four (stC X W false c t) ∗ four (stC X W true c t) ∗ owesL c l)
      ⊢ WP c (sentAll (comm false) (comm true) (ssem false) (ssem true) t) fun _ =>
          iprop(four (stD X W false c t) ∗ four (stD X W true c t) ∗ owesL c l) := by
  unfold four sentAll
  iintro ⟨#Hctx, HA, HB, Ho⟩
  ihave HA := (Entails.of_eq (fin4 _)) $$ HA
  ihave HB := (Entails.of_eq (fin4 _)) $$ HB
  icases HA with ⟨A0, A1, A2, A3⟩
  icases HB with ⟨B0, B1, B2, B3⟩
  iapply (seq_spec (left_step X W K N false c t ht 0 l hl)) $$ [$A0 $Ho]
  · iexact Hctx
  iintro %_ ⟨A0, Ho⟩
  iapply (seq_spec (left_step X W K N true c t ht 0 l hl)) $$ [$B0 $Ho]
  · iexact Hctx
  iintro %_ ⟨B0, Ho⟩
  iapply (seq_spec (left_step X W K N false c t ht 1 l hl)) $$ [$A1 $Ho]
  · iexact Hctx
  iintro %_ ⟨A1, Ho⟩
  iapply (seq_spec (left_step X W K N true c t ht 1 l hl)) $$ [$B1 $Ho]
  · iexact Hctx
  iintro %_ ⟨B1, Ho⟩
  iapply (seq_spec (left_step X W K N false c t ht 2 l hl)) $$ [$A2 $Ho]
  · iexact Hctx
  iintro %_ ⟨A2, Ho⟩
  iapply (seq_spec (left_step X W K N true c t ht 2 l hl)) $$ [$B2 $Ho]
  · iexact Hctx
  iintro %_ ⟨B2, Ho⟩
  iapply (seq_spec (left_step X W K N false c t ht 3 l hl)) $$ [$A3 $Ho]
  · iexact Hctx
  iintro %_ ⟨A3, Ho⟩
  iapply (last_spec (left_step X W K N true c t ht 3 l hl)) $$ [$B3 $Ho]
  · iexact Hctx
  iintro %_ ⟨B3, Ho⟩
  isplitl [A0 A1 A2 A3]
  · iapply (Entails.of_eq (fin4 _).symm) $$ [A0 A1 A2 A3]
    iframe A0 A1 A2 A3
  isplitl [B0 B1 B2 B3]
  · iapply (Entails.of_eq (fin4 _).symm) $$ [B0 B1 B2 B3]
    iframe B0 B1 B2 B3
  iexact Ho

/-! ### Credits that come in -/

/-- What is still to come in after `k` credits. -/
def toCome (ρ : Bool) (c : Dev nD) (k : ℕ) : sProp 𝕄 :=
  iprop(seen ρ c k ∗ bigSep (Finset.Ico k 11) fun k => iprop(dutyTok ER (gave ρ (dst ρ c)) k 0 ∗ cred (tallyAt (cell c (kC ρ)) (2 * k + 3) 1)))
/-- The rooms for the sends after time `t`, at hand or to come. -/
def need (ρ : Bool) (c : Dev nD) (t : ℕ) : sProp 𝕄 :=
  iprop((bigSep (Finset.Ico (t + 1) 3) fun s => rooms ρ (dst ρ c) s) ∗ toCome ρ c (min (t - 2) 11))

theorem rooms_four (ρ : Bool) (c : Dev nD) (t : ℕ) (h : t ≤ 13) : rooms (F := F) ρ (dst ρ c) t = four (roomAt ρ c t) := by
  unfold rooms four roomAt; simp only [if_pos h]
theorem four_none (ρ : Bool) (c : Dev nD) (t : ℕ) (h : ¬ t ≤ 13) : four (F := F) (roomAt ρ c t) = iprop(emp) := by
  have e : roomAt (F := F) ρ c t = fun _ => iprop(emp) := by funext i; unfold roomAt; rw [if_neg h]
  rw [e]; unfold four; exact bigSep_emp_const _

theorem need_early (ρ : Bool) (c : Dev nD) (t : ℕ) (h : t ≤ 1) :
    need (F := F) ρ c t ⊢ iprop(need ρ c (t + 1) ∗ four (roomAt ρ c (t + 1))) := by
  unfold need
  rw [show min (t - 2) 11 = min (t + 1 - 2) 11 from by omega]
  iintro ⟨H, Hc⟩
  ihave H := (Entails.of_eq (big_from (by omega : t + 1 < 3))) $$ H
  icases H with ⟨H, H'⟩
  iframe H' Hc
  iapply (Entails.of_eq (rooms_four ρ c (t + 1) (by omega))) $$ H
theorem need_late (ρ : Bool) (c : Dev nD) (t : ℕ) (h : t = 13) :
    need (F := F) ρ c t ⊢ iprop(need ρ c (t + 1) ∗ four (roomAt ρ c (t + 1))) := by
  subst h
  rw [four_none ρ c (13 + 1) (by decide)]
  unfold need
  iintro ⟨H, Hc⟩
  iframe H Hc
theorem need_wait (ρ : Bool) (c : Dev nD) (t : ℕ) (h : 2 ≤ t) (h' : t ≤ 12) (l : List Debt) (hl : above (2 * t + 2) l) :
    iprop(ctx X W K N ∗ need ρ c t ∗ owesL c l)
      ⊢ WP c (semWaitWord (csem ρ).sem 1#32) fun _ => iprop(need ρ c (t + 1) ∗ four (roomAt ρ c (t + 1)) ∗ owesL c l) := by
  unfold need toCome
  rw [show min (t - 2) 11 = t - 2 from by omega, show min (t + 1 - 2) 11 = t - 2 + 1 from by omega,
    ← rooms_four ρ c (t + 1) (by omega), show Finset.Ico (t + 1) 3 = ∅ from Finset.Ico_eq_empty (by omega),
    show Finset.Ico (t + 1 + 1) 3 = ∅ from Finset.Ico_eq_empty (by omega)]
  iintro ⟨#Hctx, ⟨He, Hs, Hc⟩, Ho⟩
  ihave Hc := (Entails.of_eq (big_from (by omega : t - 2 < 11))) $$ Hc
  icases Hc with ⟨⟨Ht, Hcr⟩, Hc⟩
  iapply (last_spec (seen_spec X W K N ρ c (t - 2) (by omega) l (above_mono (by omega) hl))) $$ [$Hs $Ht $Hcr $Ho]
  · iexact Hctx
  iintro %_ ⟨Ho, Hs, Hr⟩
  iframe He Hs Hc Ho
  iapply (Entails.of_eq (congrArg (rooms ρ (dst ρ c)) (by omega : t - 2 + 3 = t + 1))) $$ Hr

theorem credits_spec (c : Dev nD) (t : ℕ) (ht : t ≤ 13) (l : List Debt) (hl : above (2 * t + 2) l) :
    iprop(ctx X W K N ∗ (need false c t ∗ need true c t) ∗ owesL c l)
      ⊢ WP c (credits (F := F) (csem false) (csem true) t) fun _ =>
          iprop((need false c (t + 1) ∗ need true c (t + 1)) ∗ four (roomAt false c (t + 1)) ∗ four (roomAt true c (t + 1)) ∗ owesL c l) := by
  iintro ⟨#Hctx, ⟨Ha, Hb⟩, Ho⟩
  by_cases h : 2 ≤ t ∧ t ≤ 12
  · unfold credits
    rw [if_pos h]
    iapply (seq_spec (need_wait X W K N false c t h.1 h.2 l hl)) $$ [$Ha $Ho]
    · iexact Hctx
    iintro %_ ⟨Ha, Ra, Ho⟩
    iapply (last_spec (need_wait X W K N true c t h.1 h.2 l hl)) $$ [$Hb $Ho]
    · iexact Hctx
    iintro %_ ⟨Hb, Rb, Ho⟩
    iframe Ha Hb Ra Rb Ho
  · have hn (ρ : Bool) : need (F := F) ρ c t ⊢ iprop(need ρ c (t + 1) ∗ four (roomAt ρ c (t + 1))) := by
      by_cases h1 : t ≤ 1
      · exact need_early ρ c t h1
      · exact need_late ρ c t (by omega)
    unfold credits
    rw [if_neg h]
    simp only [Prog.pure_eq_ret]
    rw [WP, wp_ret]; imodintro
    ihave Ha := (hn false) $$ Ha
    ihave Hb := (hn true) $$ Hb
    icases Ha with ⟨Ha, Ra⟩
    icases Hb with ⟨Hb, Rb⟩
    iframe Ha Hb Ra Rb Ho

/-! ### Credits that go out -/

/-- Slot `t` is free. -/
def free (ρ : Bool) (c : Dev nD) (t : ℕ) : sProp 𝕄 := four fun i => anyQ c (comm ρ) (slot t) i
/-- What is still to be given after `t` steps, and the slots that stay free. -/
def give (ρ : Bool) (c : Dev nD) (t : ℕ) : sProp 𝕄 :=
  iprop(atPos ER (gave ρ c) (min t 11) ∅ 0 ∗ (bigSep (Finset.Ico t 11) fun k => dutyTok ER (cell (src ρ c) (kC ρ)) 0 k)
    ∗ reached ER (cell (src ρ c) (kC ρ)) 0 ∗ bigSep (Finset.Ico 11 t) fun s => free ρ c s)

theorem posR_reached (ρ : Bool) (c : Dev nD) (i : Fin 4) (t : ℕ) :
    posR (F := F) ρ c i t ⊢ reached ER (cell c (kR ρ (slot (t + 1)) i)) (t / 4) := by
  unfold posR pos; iintro ⟨-, H⟩; iexact H
theorem room_of (ρ : Bool) (c : Dev nD) (i : Fin 4) (t : ℕ) :
    iprop(stA X W ρ c (t + 1) i ∗ anyQ c (comm ρ) (slot t) i) ⊢ iprop(stA X W ρ c (t + 1) i ∗ room ρ c (t + 3) i) := by
  have e : slot (t + 3 + 1) = slot t := Fin.ext (Nat.add_mod_right t 4)
  unfold stA winR room
  rw [← e]
  iintro ⟨⟨H1, H2, ⟨P1, P2, P3, P4⟩, H4, H5⟩, Hq⟩
  ihave #Hr := (posR_reached ρ c i (t + 1 + 2)) $$ P3
  iframe H1 H2 P1 P2 P3 P4 H4 H5 Hq
  iexact Hr
theorem rooms_of (ρ : Bool) (c : Dev nD) (t : ℕ) :
    iprop(four (stA X W ρ c (t + 1)) ∗ free ρ c t) ⊢ iprop(four (stA X W ρ c (t + 1)) ∗ rooms ρ c (t + 3)) := by
  have e (Φ Ψ : Fin 4 → sProp 𝕄) : iprop(bigSep Finset.univ Φ ∗ bigSep Finset.univ Ψ) = bigSep Finset.univ fun i => iprop(Φ i ∗ Ψ i) :=
    (bigSep_sep' Finset.univ Φ Ψ).symm
  unfold free four rooms
  rw [e, e]
  exact bigSep_mono fun i _ => room_of X W ρ c i t

theorem give_one (ρ : Bool) (c : Dev nD) (t : ℕ) (ht : t ≤ 10) (l : List Debt) :
    iprop(ctx X W K N ∗ four (stA X W ρ c (t + 1)) ∗ free ρ c t ∗ give ρ c t ∗ owesL c (.credit ρ t :: l))
      ⊢ WP c (semSignalWord (src ρ c) (csem ρ).sem 1#32) fun _ => iprop(four (stA X W ρ c (t + 1)) ∗ give ρ c (t + 1) ∗ owesL c l) := by
  unfold give
  rw [show min t 11 = t from by omega, show min (t + 1) 11 = t + 1 from by omega, show Finset.Ico 11 t = ∅ from Finset.Ico_eq_empty (by omega),
    show Finset.Ico 11 (t + 1) = ∅ from Finset.Ico_eq_empty (by omega)]
  iintro ⟨#Hctx, HA, Hf, ⟨Hat, Ht, #Hr, He⟩, Ho⟩
  ihave H := (rooms_of X W ρ c t) $$ [$HA $Hf]
  icases H with ⟨HA, Hrm⟩
  ihave Ht := (Entails.of_eq (big_from (by omega : t < 11))) $$ Ht
  icases Ht with ⟨Ht0, Ht⟩
  iapply (last_spec (credit_spec X W K N ρ c t ht l)) $$ [$Ht0 $Hat $Hrm $Ho]
  · iframe #
  iintro %_ ⟨Ho, Hat⟩
  iframe HA Ho Hat Ht He
  iexact Hr

theorem give_none (ρ : Bool) (c : Dev nD) (t : ℕ) (ht : 11 ≤ t) : iprop(free ρ c t ∗ give ρ c t) ⊢ give (F := F) ρ c (t + 1) := by
  unfold give
  rw [show min t 11 = 11 from by omega, show min (t + 1) 11 = 11 from by omega, show Finset.Ico t 11 = ∅ from Finset.Ico_eq_empty (by omega),
    show Finset.Ico (t + 1) 11 = ∅ from Finset.Ico_eq_empty (by omega)]
  iintro ⟨Hf, Hat, Ht, #Hr, He⟩
  iframe Hat Ht
  isplitr; · iexact Hr
  iapply (Entails.of_eq (big_to ht).symm) $$ [$Hf $He]

theorem giveCredit_spec (c : Dev nD) (t : ℕ) (l : List Debt) :
    iprop(ctx X W K N ∗ (four (stA X W false c (t + 1)) ∗ free false c t ∗ give false c t)
        ∗ (four (stA X W true c (t + 1)) ∗ free true c t ∗ give true c t) ∗ owesL c (lent t ++ l))
      ⊢ WP c (giveCredit (csem false) (csem true) c t) fun _ => iprop((four (stA X W false c (t + 1)) ∗ give false c (t + 1))
          ∗ (four (stA X W true c (t + 1)) ∗ give true c (t + 1)) ∗ owesL c l) := by
  iintro ⟨#Hctx, ⟨Aa, Fa, Ga⟩, ⟨Ab, Fb, Gb⟩, Ho⟩
  by_cases h : t ≤ 10
  · unfold giveCredit lent
    rw [if_pos h, if_pos h]
    iapply (seq_spec (give_one X W K N false c t h (.credit true t :: l))) $$ [$Aa $Fa $Ga $Ho]
    · iexact Hctx
    iintro %_ ⟨Aa, Ga, Ho⟩
    iapply (last_spec (give_one X W K N true c t h l)) $$ [$Ab $Fb $Gb $Ho]
    · iexact Hctx
    iintro %_ ⟨Ab, Gb, Ho⟩
    iframe Aa Ga Ab Gb Ho
  · unfold giveCredit lent
    rw [if_neg h, if_neg h]
    simp only [Prog.pure_eq_ret]
    rw [WP, wp_ret]; imodintro
    ihave Ga := (give_none false c t (by omega)) $$ [$Fa $Ga]
    ihave Gb := (give_none true c t (by omega)) $$ [$Fb $Gb]
    iframe Aa Ga Ab Gb
    iexact Ho

end Cert.KernelIdeal.Ring
-- ==== Proof.Laps.lean ====
/-
  The steps of the ring, the sums first and then the finished chunks, with the copies that bring a chunk to its place in the result.
-/
module

public import proofs.«01_k».proof.Proof.Turn

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

theorem four_sep (Φ Ψ : Fin 4 → sProp 𝕄) : iprop(four Φ ∗ four Ψ) = four fun i => iprop(Φ i ∗ Ψ i) :=
  (bigSep_sep' Finset.univ Φ Ψ).symm
theorem four_mono {Φ Ψ : Fin 4 → sProp 𝕄} (h : ∀ i, Φ i ⊢ Ψ i) : four Φ ⊢ four Ψ := bigSep_mono fun i _ => h i

/-! ### Results -/

abbrev oM : Memref sig .tc .hbm S4096x2048 .f32 := Memref.whole main_v1

def done (ρ : Bool) (c : Dev nD) (r : Fin 8) : sProp 𝕄 :=
  owns (c : Thread nD τ) (outM ρ c r) fullShare (joinQ (Y X W ρ (r.val + 7) c))
/-- The blocks from `r` on, still to be written, with the right to write them; and the blocks below `r`. -/
def blank (ρ : Bool) (c : Dev nD) (r : ℕ) : sProp 𝕄 :=
  bigSep (Finset.Ico r 8) fun j => iprop(anyO c ρ (toF8 j) ∗ dutyTok ER (cell c (kO ρ)) j 0)
def filled (ρ : Bool) (c : Dev nD) (r : ℕ) : sProp 𝕄 := bigSep (Finset.Ico 0 r) fun j => done X W ρ c (toF8 j)
/-- With the copy of block `r` yet to come, and with it under way. -/
def outS (ρ : Bool) (c : Dev nD) (r : ℕ) : sProp 𝕄 := iprop(pos c (kO ρ) r ∗ blank ρ c r ∗ filled X W ρ c r)
def outF (ρ : Bool) (c : Dev nD) (r : ℕ) : sProp 𝕄 :=
  iprop(cred (tallyAt (cell c (kO ρ)) 0 NS) ∗ pos c (kO ρ) r ∗ blank ρ c (r + 1) ∗ filled X W ρ c r)

theorem slot_kept (ρ : Bool) (c : Dev nD) (t : ℕ) :
    owns (c : Thread nD τ) (slotRef (comm ρ) (slot t)) fullShare.right (joinQ (Y X W ρ t c)) = four (keptHalf X W ρ c · t) := by
  unfold four keptHalf; exact slot_split c _ _ _ _

theorem put_one (ρ : Bool) (c : Dev nD) (r : Fin 8) :
    iprop(ctx X W K N ∗ outS X W ρ c r.val ∗ four (keptHalf X W ρ c · (r.val + 7)))
      ⊢ WP c (copyOut (comm ρ) (outM ρ c r) (osem ρ) r) fun _ => outF X W ρ c r.val := by
  unfold outS outF blank pos
  iintro ⟨#Hctx, ⟨⟨Hp, #Hr⟩, Hb, Hf⟩, Hk⟩
  ihave Hk := (Entails.of_eq (slot_kept X W ρ c (r.val + 7)).symm) $$ Hk
  ihave Hb := (Entails.of_eq (big_from r.isLt)) $$ Hb
  icases Hb with ⟨⟨Ha, Ht⟩, Hb⟩
  ihave Ha := (Entails.of_eq (congrArg (anyO c ρ) (toF8_val r))) $$ Ha
  iapply (last_spec (copy_spec X W K N ρ c r)) $$ [$Hk $Ha $Ht]
  · iframe #
  iintro %_ Hc
  iframe Hc Hp Hb Hf
  iexact Hr

theorem wait_one (ρ : Bool) (c : Dev nD) (r : Fin 8) (l : List Debt) (hl : above 0 l) :
    iprop(ctx X W K N ∗ outF X W ρ c r.val ∗ owesL c l)
      ⊢ WP c (copyWait (comm ρ) (outM ρ c r) (osem ρ) r) fun _ =>
          iprop(outS X W ρ c (r.val + 1) ∗ four (keptHalf X W ρ c · (r.val + 7)) ∗ owesL c l) := by
  unfold outS outF
  iintro ⟨#Hctx, ⟨Hc, Hp, Hb, Hf⟩, Ho⟩
  iapply (last_spec (copied_spec X W K N ρ c r l hl)) $$ [$Hp $Hc $Ho]
  · iexact Hctx
  iintro %_ ⟨Ho, Hp, Hk, Hd⟩
  ihave Hk := (Entails.of_eq (slot_kept X W ρ c (r.val + 7))) $$ Hk
  iframe Ho Hp Hb Hk
  unfold filled
  iapply (Entails.of_eq (big_to (Nat.zero_le r.val)).symm)
  iframe Hf
  iapply (Entails.of_eq (congrArg (done X W ρ c) (toF8_val r).symm))
  unfold done
  iexact Hd

theorem putOut_spec (c : Dev nD) (r : Fin 8) :
    iprop(ctx X W K N ∗ (outS X W false c r.val ∗ four (keptHalf X W false c · (r.val + 7)))
        ∗ (outS X W true c r.val ∗ four (keptHalf X W true c · (r.val + 7))))
      ⊢ WP c (putOut oM (comm false) (comm true) (osem false) (osem true) c r) fun _ => iprop(outF X W false c r.val ∗ outF X W true c r.val) := by
  unfold putOut
  iintro ⟨#Hctx, ⟨Ha, Ka⟩, ⟨Hb, Kb⟩⟩
  iapply (seq_spec (put_one X W K N false c r)) $$ [$Ha $Ka]
  · iexact Hctx
  iintro %_ Ha
  iapply (last_spec (put_one X W K N true c r)) $$ [$Hb $Kb]
  · iexact Hctx
  iintro %_ Hb
  iframe Ha Hb

theorem putWait_spec (c : Dev nD) (r : Fin 8) (l : List Debt) (hl : above 0 l) :
    iprop(ctx X W K N ∗ outF X W false c r.val ∗ outF X W true c r.val ∗ owesL c l)
      ⊢ WP c (putWait oM (comm false) (comm true) (osem false) (osem true) c r) fun _ =>
          iprop((outS X W false c (r.val + 1) ∗ four (keptHalf X W false c · (r.val + 7)))
            ∗ (outS X W true c (r.val + 1) ∗ four (keptHalf X W true c · (r.val + 7))) ∗ owesL c l) := by
  unfold putWait
  iintro ⟨#Hctx, Ha, Hb, Ho⟩
  iapply (seq_spec (wait_one X W K N false c r l hl)) $$ [$Ha $Ho]
  · iexact Hctx
  iintro %_ ⟨Ha, Ka, Ho⟩
  iapply (last_spec (wait_one X W K N true c r l hl)) $$ [$Hb $Ho]
  · iexact Hctx
  iintro %_ ⟨Hb, Kb, Ho⟩
  iframe Ha Ka Hb Kb Ho

/-! ### Steps -/

/-- Where a direction stands before step `t`. -/
def stand (ρ : Bool) (c : Dev nD) (t : ℕ) : sProp 𝕄 := iprop(four (stA X W ρ c t) ∗ need ρ c t ∗ give ρ c t)

theorem part_split (ρ : Bool) (c : Dev nD) (t : ℕ) : four (stD X W ρ c t)
    ⊢ iprop(four (stA X W ρ c (t + 1)) ∗ four (keptHalf X W ρ c · (t + 1)) ∗ four (lentHalf X W ρ c · t)) := by
  rw [four_sep, four_sep]; exact four_mono fun i => by unfold stD; exact Entails.rfl
theorem free_of (ρ : Bool) (c : Dev nD) (t : ℕ) : iprop(four (lentHalf X W ρ c · t) ∗ four (keptHalf X W ρ c · t)) ⊢ free ρ c t := by
  unfold free
  rw [four_sep]
  exact four_mono fun i => (halves_whole X W ρ c i t).trans (by unfold whole; exact anyQ_intro c _ _ _ _)

/-- What is left to pay after the quarters of step `t`. -/
theorem above_rest {t : ℕ} (ht : t ≤ 13) : above (2 * t + 2) (lent t ++ owed (t + 1)) := by
  have h := above_owed t
  rw [owed_step ht] at h
  exact above_app (above_app (above_app (above_app h)))

theorem sum_quarters (c : Dev nD) (r : Fin 7) :
    iprop(ctx X W K N ∗ four (stA X W false c r.val) ∗ four (stA X W true c r.val) ∗ (need false c r.val ∗ need true c r.val)
        ∗ owesL c (owed r.val))
      ⊢ WP c (quartersSum (comm false) (comm true) (ssem false) (rsem false) (ssem true) (rsem true) (csem false) (csem true) c r.val
            (part X W false c r) (part X W true c r)) fun _ =>
          iprop(four (stC X W false c r.val) ∗ four (stC X W true c r.val) ∗ (need false c (r.val + 1) ∗ need true c (r.val + 1))
            ∗ owesL c (lent r.val ++ owed (r.val + 1))) := by
  have h := above_owed r.val
  rw [owed_step (by omega)] at h ⊢
  exact quarters_spec X W K N c r.val (by omega) _ _ _ _ _ (arrive_sum X W K N false c r) (arrive_sum X W K N true c r)
    (credits_spec X W K N c r.val (by omega)) _ h
theorem pass_quarters (c : Dev nD) (t : ℕ) (h7 : 7 ≤ t) (ht : t ≤ 13) :
    iprop(ctx X W K N ∗ four (stA X W false c t) ∗ four (stA X W true c t) ∗ (need false c t ∗ need true c t) ∗ owesL c (owed t))
      ⊢ WP c (quartersPass (comm false) (comm true) (ssem false) (rsem false) (ssem true) (rsem true) (csem false) (csem true) c t) fun _ =>
          iprop(four (stC X W false c t) ∗ four (stC X W true c t) ∗ (need false c (t + 1) ∗ need true c (t + 1))
            ∗ owesL c (lent t ++ owed (t + 1))) := by
  have h := above_owed t
  rw [owed_step ht] at h ⊢
  exact quarters_spec X W K N c t ht _ _ _ _ _ (arrive_pass X W K N false c t h7 ht) (arrive_pass X W K N true c t h7 ht)
    (credits_spec X W K N c t ht) _ h

theorem stepSum_spec (c : Dev nD) (r : Fin 7) :
    iprop(ctx X W K N ∗ opnd X W c ∗ (stand X W false c r.val ∗ four (keptHalf X W false c · r.val))
        ∗ (stand X W true c r.val ∗ four (keptHalf X W true c · r.val)) ∗ owesL c (owed r.val))
      ⊢ WP c (stepSum xM wM (comm false) (comm true) (ssem false) (rsem false) (ssem true) (rsem true) (csem false) (csem true) c r) fun _ =>
          iprop(opnd X W c ∗ (stand X W false c (r.val + 1) ∗ four (keptHalf X W false c · (r.val + 1)))
            ∗ (stand X W true c (r.val + 1) ∗ four (keptHalf X W true c · (r.val + 1))) ∗ owesL c (owed (r.val + 1))) := by
  have hr := above_rest (t := r.val) (by omega)
  unfold stepSum stand
  iintro ⟨#Hctx, Hx, ⟨⟨Aa, Na, Ga⟩, Ka⟩, ⟨⟨Ab, Nb, Gb⟩, Kb⟩, Ho⟩
  iapply (seq_spec (loadX2_spec X W c r)) $$ Hx
  iintro %v ⟨%hv, Hx⟩
  subst hv
  iapply (seq_spec (loadWa_spec X W c)) $$ Hx
  iintro %v ⟨%hv, Hx⟩
  subst hv
  iapply (seq_spec (loadX3_spec X W c r)) $$ Hx
  iintro %v ⟨%hv, Hx⟩
  subst hv
  iapply (seq_spec (loadWb_spec X W c)) $$ Hx
  iintro %v ⟨%hv, Hx⟩
  subst hv
  iapply (seq_spec (sum_quarters X W K N c r)) $$ [$Aa $Ab $Na $Nb $Ho]
  · iexact Hctx
  iintro %_ ⟨Aa, Ab, ⟨Na, Nb⟩, Ho⟩
  iapply (seq_spec (sentAll_spec X W K N c r.val (by omega) _ (above_mono (Nat.zero_le _) hr))) $$ [$Aa $Ab $Ho]
  · iexact Hctx
  iintro %_ ⟨Aa, Ab, Ho⟩
  ihave Aa := (part_split X W false c r.val) $$ Aa
  ihave Ab := (part_split X W true c r.val) $$ Ab
  icases Aa with ⟨Aa, Ka', La⟩
  icases Ab with ⟨Ab, Kb', Lb⟩
  ihave Fa := (free_of X W false c r.val) $$ [$La $Ka]
  ihave Fb := (free_of X W true c r.val) $$ [$Lb $Kb]
  iapply (last_spec (giveCredit_spec X W K N c r.val _)) $$ [$Aa $Fa $Ga $Ab $Fb $Gb $Ho]
  · iexact Hctx
  iintro %_ ⟨⟨Aa, Ga⟩, ⟨Ab, Gb⟩, Ho⟩
  iframe Hx Aa Na Ga Ka' Ab Nb Gb Kb' Ho

theorem stepPass_spec (c : Dev nD) (r : Fin 7) :
    iprop(ctx X W K N ∗ (stand X W false c (r.val + 7) ∗ outF X W false c r.val)
        ∗ (stand X W true c (r.val + 7) ∗ outF X W true c r.val) ∗ owesL c (owed (r.val + 7)))
      ⊢ WP c (stepPass oM (comm false) (comm true) (ssem false) (rsem false) (ssem true) (rsem true) (osem false) (osem true)
            (csem false) (csem true) c r) fun _ =>
          iprop((stand X W false c (r.val + 8) ∗ outF X W false c (r.val + 1))
            ∗ (stand X W true c (r.val + 8) ∗ outF X W true c (r.val + 1)) ∗ owesL c (owed (r.val + 8))) := by
  have hr := above_rest (t := r.val + 7) (by omega)
  unfold stepPass stand
  iintro ⟨#Hctx, ⟨⟨Aa, Na, Ga⟩, Oa⟩, ⟨⟨Ab, Nb, Gb⟩, Ob⟩, Ho⟩
  iapply (seq_spec (pass_quarters X W K N c (r.val + 7) (by omega) (by omega))) $$ [$Aa $Ab $Na $Nb $Ho]
  · iexact Hctx
  iintro %_ ⟨Aa, Ab, ⟨Na, Nb⟩, Ho⟩
  iapply (seq_spec (sentAll_spec X W K N c (r.val + 7) (by omega) _ (above_mono (Nat.zero_le _) hr))) $$ [$Aa $Ab $Ho]
  · iexact Hctx
  iintro %_ ⟨Aa, Ab, Ho⟩
  ihave Aa := (part_split X W false c (r.val + 7)) $$ Aa
  ihave Ab := (part_split X W true c (r.val + 7)) $$ Ab
  icases Aa with ⟨Aa, Ka', La⟩
  icases Ab with ⟨Ab, Kb', Lb⟩
  iapply (seq_spec (putWait_spec X W K N c r.castSucc _ (above_mono (Nat.zero_le _) hr))) $$ [$Oa $Ob $Ho]
  · iexact Hctx
  iintro %_ ⟨⟨Oa, Ka⟩, ⟨Ob, Kb⟩, Ho⟩
  ihave Fa := (free_of X W false c (r.val + 7)) $$ [$La $Ka]
  ihave Fb := (free_of X W true c (r.val + 7)) $$ [$Lb $Kb]
  iapply (seq_spec (giveCredit_spec X W K N c (r.val + 7) _)) $$ [$Aa $Fa $Ga $Ab $Fb $Gb $Ho]
  · iexact Hctx
  iintro %_ ⟨⟨Aa, Ga⟩, ⟨Ab, Gb⟩, Ho⟩
  have e : r.succ.val + 7 = r.val + 7 + 1 := by rw [Fin.val_succ]
  iapply (last_spec (putOut_spec X W K N c r.succ)) $$ [Oa Ka' Ob Kb']
  · rw [e]
    isplitr; · iexact Hctx
    iframe Ka' Kb'
    isplitl [Oa]; · iexact Oa
    iexact Ob
  iintro %_ ⟨Oa, Ob⟩
  iframe Aa Na Ga Ab Nb Gb Ho
  isplitl [Oa]; · iexact Oa
  iexact Ob

end Cert.KernelIdeal.Ring
-- ==== Proof.Body.lean ====
/-
  The whole body of one device: the meeting with its neighbours, the first sends, the steps, and what is left at the end.
-/
module

public import proofs.«01_k».proof.Proof.Laps

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### The start -/

/-- A quarter before its first send. -/
def stP (ρ : Bool) (c : Dev nD) (i : Fin 4) : sProp 𝕄 := iprop(winS ρ c i 0 ∗ winR ρ c i 0 ∗ toks ρ c i 0 ∗ creds ρ c i 0)
/-- What is owed for the first sends. -/
def pair0 (i : Fin 4) : List Debt := [.send false 0 i, .send true 0 i]
theorem above_pair0 (i : Fin 4) : above 1 (pair0 i) := by
  intro j hj
  rcases List.mem_cons.mp hj with rfl | hj
  · exact ⟨by dsimp only [level]; omega, by dsimp only [level]; omega⟩
  rcases List.mem_cons.mp hj with rfl | hj
  · exact ⟨by dsimp only [level]; omega, by dsimp only [level]; omega⟩
  exact absurd hj List.not_mem_nil
def owedSeed : List Debt := pair0 0 ++ (pair0 1 ++ (pair0 2 ++ (pair0 3 ++ owed 0)))
theorem above_seed : above 1 owedSeed :=
  above_both (above_pair0 0) (above_both (above_pair0 1) (above_both (above_pair0 2) (above_both (above_pair0 3) (above_mono (by decide) (above_owed 0)))))
/-- Everything a device owes. -/
def owedAll : List Debt := .bar false :: .bar true :: owedSeed

theorem seedA_spec (c : Dev nD) (i : Fin 4) :
    iprop(opnd X W c ∗ anyQ c (comm false) 0 i) ⊢ WP c (seedA xM wM (comm false) c i) fun _ => iprop(opnd X W c ∗ whole X W false c i 0) := by
  unfold anyQ
  iintro ⟨Hx, %Z, Hq⟩
  iapply (seq_spec (loadX1_spec X W c i)) $$ Hx
  iintro %v ⟨%hv, Hx⟩
  subst hv
  iapply (seq_spec (loadWa_spec X W c)) $$ Hx
  iintro %v ⟨%hv, Hx⟩
  subst hv
  iapply (seq_spec (loadQ_spec false c 0 i _)) $$ Hq
  iintro %v ⟨-, Hq⟩
  iapply (last_spec (storeQ_spec false c 0 i _ _)) $$ Hq
  iintro %_ Hq
  iframe Hx
  unfold whole
  rw [Y]
  iexact Hq
theorem seedB_spec (c : Dev nD) (i : Fin 4) :
    iprop(opnd X W c ∗ anyQ c (comm true) 0 i) ⊢ WP c (seedB xM wM (comm true) c i) fun _ => iprop(opnd X W c ∗ whole X W true c i 0) := by
  unfold anyQ
  iintro ⟨Hx, %Z, Hq⟩
  iapply (seq_spec (loadX1_spec X W c i)) $$ Hx
  iintro %v ⟨%hv, Hx⟩
  subst hv
  iapply (seq_spec (loadWb_spec X W c)) $$ Hx
  iintro %v ⟨%hv, Hx⟩
  subst hv
  iapply (seq_spec (loadQ_spec true c 0 i _)) $$ Hq
  iintro %v ⟨-, Hq⟩
  iapply (last_spec (storeQ_spec true c 0 i _ _)) $$ Hq
  iintro %_ Hq
  iframe Hx
  unfold whole
  rw [Y]
  iexact Hq

theorem send_first (ρ : Bool) (c : Dev nD) (i : Fin 4) (l : List Debt) :
    iprop(ctx X W K N ∗ stP ρ c i ∗ whole X W ρ c i 0 ∗ room ρ (dst ρ c) 0 i ∗ owesL c (.send ρ 0 i :: l))
      ⊢ WP c (send (comm ρ) (ssem ρ) (rsem ρ) (dst ρ c) 0 i) fun _ => iprop(stA X W ρ c 0 i ∗ keptHalf X W ρ c i 0 ∗ owesL c l) := by
  unfold stP winS toks
  iintro ⟨#Hctx, ⟨⟨Hp0, Hp1, Hp2, Hp3⟩, H3, H4, H5⟩, Hw, Hr, Ho⟩
  ihave Ht := (Entails.of_eq (big_from (by omega : 0 < 14))) $$ H4
  icases Ht with ⟨⟨Ht1, Ht2⟩, H4⟩
  ihave Hh := (whole_halves X W ρ c i 0) $$ Hw
  icases Hh with ⟨Hl, Hk⟩
  unfold posS pos
  icases Hp0 with ⟨Hp0, #Hrs⟩
  iapply (last_spec (send_spec X W K N ρ c 0 (by omega) i l)) $$ [Hl Hr Ht1 Ht2 Ho]
  · isplitr; · iexact Hctx
    isplitl [Hl]; · unfold lentHalf; iexact Hl
    isplitl [Hr]; · iexact Hr
    isplitr; · iexact Hrs
    isplitl [Ht1]; · iexact Ht1
    isplitl [Ht2]; · iexact Ht2
    iexact Ho
  iintro %_ ⟨Hc, Ho⟩
  iframe Hk Ho
  unfold stA winS toks posS pos
  iframe H3 H4 H5
  isplitl [Hc]; · iapply (Entails.of_eq (inFl_le X W (by omega)).symm) $$ Hc
  isplitl [Hp0]
  · iframe Hp0; iexact Hrs
  iframe Hp1 Hp2 Hp3

theorem sendBoth_first (c : Dev nD) (i : Fin 4) (l : List Debt) :
    iprop(ctx X W K N ∗ (stP false c i ∗ whole X W false c i 0 ∗ room false (dst false c) 0 i)
        ∗ (stP true c i ∗ whole X W true c i 0 ∗ room true (dst true c) 0 i) ∗ owesL c (pair0 i ++ l))
      ⊢ WP c (sendBoth (comm false) (comm true) (ssem false) (rsem false) (ssem true) (rsem true) c 0 i) fun _ =>
        iprop((stA X W false c 0 i ∗ keptHalf X W false c i 0) ∗ (stA X W true c 0 i ∗ keptHalf X W true c i 0) ∗ owesL c l) := by
  unfold sendBoth pair0
  iintro ⟨#Hctx, ⟨Pa, Wa, Ra⟩, ⟨Pb, Wb, Rb⟩, Ho⟩
  iapply (seq_spec (send_first X W K N false c i (.send true 0 i :: l))) $$ [$Pa $Wa $Ra $Ho]
  · iexact Hctx
  iintro %_ ⟨Aa, Ka, Ho⟩
  iapply (last_spec (send_first X W K N true c i l)) $$ [$Pb $Wb $Rb $Ho]
  · iexact Hctx
  iintro %_ ⟨Ab, Kb, Ho⟩
  iframe Aa Ka Ab Kb Ho

/-- One direction's part of what a device starts with. -/
def start (ρ : Bool) (c : Dev nD) : sProp 𝕄 :=
  iprop(four (stP ρ c) ∗ (bigSep Finset.univ fun p : Fin 4 × Fin 4 => anyQ c (comm ρ) p.1 p.2)
    ∗ (reached ER (cell (src ρ c) kBar) 0 ∗ dutyTok ER (cell (src ρ c) kBar) 0 (side ρ)) ∗ toCome ρ c 0 ∗ give ρ c 0 ∗ outS X W ρ c 0)

abbrev rooms3 (ρ : Bool) (d : Dev nD) : sProp 𝕄 := bigSep (Finset.univ : Finset (Fin 3 × Fin 4)) fun p => room ρ d p.1.val p.2

theorem rooms3_out (ρ : Bool) (c : Dev nD) :
    rooms3 (F := F) ρ (dst ρ c) ⊢ iprop(four (room ρ (dst ρ c) 0) ∗ bigSep (Finset.Ico (0 + 1) 3) fun s => rooms ρ (dst ρ c) s) := by
  have e : rooms3 (F := F) ρ (dst ρ c) = iprop(rooms ρ (dst ρ c) 0 ∗ rooms ρ (dst ρ c) 1 ∗ rooms ρ (dst ρ c) 2) := by
    unfold rooms3
    rw [bigSep_univ_prod, bigSep_univ_eq_bigSepL [0, 1, 2] (by decide) (by decide)]; rfl
  rw [e, show Finset.Ico (0 + 1) 3 = insert 1 {2} from rfl, big_insert (by decide), bigSep_singleton]
  exact Entails.rfl
theorem own_rooms (ρ : Bool) (c : Dev nD) :
    iprop(four (stP ρ c) ∗ (bigSep Finset.univ fun p : Fin 4 × Fin 4 => anyQ c (comm ρ) p.1 p.2))
      ⊢ iprop(four (stP (F := F) ρ c) ∗ four (fun i => anyQ c (comm ρ) 0 i) ∗ rooms3 ρ c) := by
  have e : (bigSep Finset.univ fun p : Fin 4 × Fin 4 => (anyQ c (comm ρ) p.1 p.2 : sProp 𝕄))
      = iprop(four (fun i => anyQ c (comm ρ) 0 i) ∗ four (fun i => anyQ c (comm ρ) 1 i) ∗ four (fun i => anyQ c (comm ρ) 2 i)
        ∗ four (fun i => anyQ c (comm ρ) 3 i)) := by
    rw [bigSep_univ_prod, fin4]; rfl
  have e' : rooms3 (F := F) ρ c = iprop(rooms ρ c 0 ∗ rooms ρ c 1 ∗ rooms ρ c 2) := by
    unfold rooms3
    rw [bigSep_univ_prod, bigSep_univ_eq_bigSepL [0, 1, 2] (by decide) (by decide)]; rfl
  have h (i : Fin 4) : iprop(stP (F := F) ρ c i ∗ anyQ c (comm ρ) 1 i ∗ anyQ c (comm ρ) 2 i ∗ anyQ c (comm ρ) 3 i)
      ⊢ iprop(stP ρ c i ∗ room ρ c 0 i ∗ room ρ c 1 i ∗ room ρ c 2 i) := by
    unfold stP winR
    iintro ⟨⟨H1, ⟨P1, P2, P3, P4⟩, H4, H5⟩, Q1, Q2, Q3⟩
    ihave #R1 := (posR_reached ρ c i 0) $$ P1
    ihave #R2 := (posR_reached ρ c i (0 + 1)) $$ P2
    ihave #R3 := (posR_reached ρ c i (0 + 2)) $$ P3
    iframe H1 P1 P2 P3 P4 H4 H5
    unfold room
    isplitl [Q1]
    · isplitl [Q1]; · iexact Q1
      iexact R1
    isplitl [Q2]
    · isplitl [Q2]; · iexact Q2
      iexact R2
    isplitl [Q3]; · iexact Q3
    iexact R3
  have h' : iprop(four (stP (F := F) ρ c) ∗ four (fun i => anyQ c (comm ρ) 1 i) ∗ four (fun i => anyQ c (comm ρ) 2 i) ∗ four (fun i => anyQ c (comm ρ) 3 i))
      ⊢ iprop(four (stP ρ c) ∗ rooms ρ c 0 ∗ rooms ρ c 1 ∗ rooms ρ c 2) := by
    rw [show (rooms (F := F) ρ c) = fun t => four (room ρ c t) from rfl]
    simp only [four_sep]
    exact four_mono h
  rw [e, e']
  iintro ⟨H, Q0, Q1, Q2, Q3⟩
  ihave H := h' $$ [$H $Q1 $Q2 $Q3]
  icases H with ⟨H, R⟩
  iframe H Q0 R

/-! ### The steps in a row -/

def lapSum (c : Dev nD) (t : ℕ) : sProp 𝕄 :=
  iprop(opnd X W c ∗ (stand X W false c t ∗ four (keptHalf X W false c · t)) ∗ (stand X W true c t ∗ four (keptHalf X W true c · t)) ∗ owesL c (owed t))
def lapPass (c : Dev nD) (t r : ℕ) : sProp 𝕄 :=
  iprop((stand X W false c t ∗ outF X W false c r) ∗ (stand X W true c t ∗ outF X W true c r) ∗ owesL c (owed t))

theorem lapSum_spec (c : Dev nD) (r : Fin 7) (t : ℕ) (h : r.val = t) : iprop(ctx X W K N ∗ lapSum X W c t)
    ⊢ WP c (stepSum xM wM (comm false) (comm true) (ssem false) (rsem false) (ssem true) (rsem true) (csem false) (csem true) c r) fun _ =>
      lapSum X W c (t + 1) := by
  subst h; exact stepSum_spec X W K N c r
theorem lapPass_spec (c : Dev nD) (r : Fin 7) (t s : ℕ) (h : r.val + 7 = t) (h' : r.val = s) : iprop(ctx X W K N ∗ lapPass X W c t s)
    ⊢ WP c (stepPass oM (comm false) (comm true) (ssem false) (rsem false) (ssem true) (rsem true) (osem false) (osem true)
            (csem false) (csem true) c r) fun _ => lapPass X W c (t + 1) (s + 1) := by
  subst h; subst h'; exact stepPass_spec X W K N c r

/-! ### The whole -/

theorem four_eq (Φ : Fin 4 → sProp 𝕄) : four Φ = iprop(Φ 0 ∗ Φ 1 ∗ Φ 2 ∗ Φ 3) := fin4 Φ

theorem seed_spec (c : Dev nD) :
    iprop(ctx X W K N ∗ opnd X W c ∗ start X W false c ∗ start X W true c ∗ pos c kBar 0 ∗ cred (tallyAt (cell c kBar) 1 2) ∗ owesL c owedAll)
      ⊢ WP c (seed xM wM (comm false) (comm true) (ssem false) (rsem false) (ssem true) (rsem true) c) fun _ =>
          iprop(lapSum X W c 0 ∗ pos c kBar 1 ∗ outS X W false c 0 ∗ outS X W true c 0) := by
  unfold seed start owedAll
  iintro ⟨#Hctx, Hx, ⟨Pa, Qa, ⟨#Ra, Ta⟩, Ca, Ga, Oa⟩, ⟨Pb, Qb, ⟨#Rb, Tb⟩, Cb, Gb, Ob⟩, Hp, Hc, Ho⟩
  ihave H := (own_rooms false c) $$ [$Pa $Qa]
  icases H with ⟨Pa, Qa, Ma⟩
  ihave H := (own_rooms true c) $$ [$Pb $Qb]
  icases H with ⟨Pb, Qb, Mb⟩
  unfold four rooms3
  ihave Qa := (Entails.of_eq (fin4 _)) $$ Qa
  ihave Qb := (Entails.of_eq (fin4 _)) $$ Qb
  ihave Pa := (Entails.of_eq (fin4 _)) $$ Pa
  ihave Pb := (Entails.of_eq (fin4 _)) $$ Pb
  icases Qa with ⟨Qa0, Qa1, Qa2, Qa3⟩
  icases Qb with ⟨Qb0, Qb1, Qb2, Qb3⟩
  icases Pa with ⟨Pa0, Pa1, Pa2, Pa3⟩
  icases Pb with ⟨Pb0, Pb1, Pb2, Pb3⟩
  iapply (seq_spec (meet_spec X W K N false c (.bar true :: owedSeed))) $$ [$Ta $Ma $Ho]
  · iframe #
  iintro %_ Ho
  iapply (seq_spec (meet_spec X W K N true c owedSeed)) $$ [$Tb $Mb $Ho]
  · iframe #
  iintro %_ Ho
  iapply (seq_spec (seedA_spec X W c 0)) $$ [$Hx $Qa0]
  iintro %_ ⟨Hx, Wa0⟩
  iapply (seq_spec (seedB_spec X W c 0)) $$ [$Hx $Qb0]
  iintro %_ ⟨Hx, Wb0⟩
  iapply (seq_spec (met_spec X W K N c owedSeed above_seed)) $$ [$Hp $Hc $Ho]
  · iexact Hctx
  iintro %_ ⟨Ho, Hp, Ma, Mb⟩
  ihave Ma := (rooms3_out false c) $$ Ma
  ihave Mb := (rooms3_out true c) $$ Mb
  icases Ma with ⟨Ma, Na⟩
  icases Mb with ⟨Mb, Nb⟩
  unfold four owedSeed
  ihave Ma := (Entails.of_eq (fin4 _)) $$ Ma
  ihave Mb := (Entails.of_eq (fin4 _)) $$ Mb
  icases Ma with ⟨Ma0, Ma1, Ma2, Ma3⟩
  icases Mb with ⟨Mb0, Mb1, Mb2, Mb3⟩
  iapply (seq_spec (sendBoth_first X W K N c 0 _)) $$ [$Pa0 $Wa0 $Ma0 $Pb0 $Wb0 $Mb0 $Ho]
  · iexact Hctx
  iintro %_ ⟨⟨Aa0, Ka0⟩, ⟨Ab0, Kb0⟩, Ho⟩
  iapply (seq_spec (seedA_spec X W c 1)) $$ [$Hx $Qa1]
  iintro %_ ⟨Hx, Wa1⟩
  iapply (seq_spec (seedB_spec X W c 1)) $$ [$Hx $Qb1]
  iintro %_ ⟨Hx, Wb1⟩
  iapply (seq_spec (sendBoth_first X W K N c 1 _)) $$ [$Pa1 $Wa1 $Ma1 $Pb1 $Wb1 $Mb1 $Ho]
  · iexact Hctx
  iintro %_ ⟨⟨Aa1, Ka1⟩, ⟨Ab1, Kb1⟩, Ho⟩
  iapply (seq_spec (seedA_spec X W c 2)) $$ [$Hx $Qa2]
  iintro %_ ⟨Hx, Wa2⟩
  iapply (seq_spec (seedB_spec X W c 2)) $$ [$Hx $Qb2]
  iintro %_ ⟨Hx, Wb2⟩
  iapply (seq_spec (sendBoth_first X W K N c 2 _)) $$ [$Pa2 $Wa2 $Ma2 $Pb2 $Wb2 $Mb2 $Ho]
  · iexact Hctx
  iintro %_ ⟨⟨Aa2, Ka2⟩, ⟨Ab2, Kb2⟩, Ho⟩
  iapply (seq_spec (seedA_spec X W c 3)) $$ [$Hx $Qa3]
  iintro %_ ⟨Hx, Wa3⟩
  iapply (seq_spec (seedB_spec X W c 3)) $$ [$Hx $Qb3]
  iintro %_ ⟨Hx, Wb3⟩
  iapply (last_spec (sendBoth_first X W K N c 3 _)) $$ [$Pa3 $Wa3 $Ma3 $Pb3 $Wb3 $Mb3 $Ho]
  · iexact Hctx
  iintro %_ ⟨⟨Aa3, Ka3⟩, ⟨Ab3, Kb3⟩, Ho⟩
  unfold lapSum stand need
  iframe Hx Ga Gb Na Nb Ho Hp Oa Ob
  isplitl [Aa0 Aa1 Aa2 Aa3 Ka0 Ka1 Ka2 Ka3 Ca]
  · isplitl [Aa0 Aa1 Aa2 Aa3 Ca]
    · isplitl [Aa0 Aa1 Aa2 Aa3]
      · iapply (Entails.of_eq (four_eq _).symm) $$ [Aa0 Aa1 Aa2 Aa3]
        iframe Aa0 Aa1 Aa2 Aa3
      iexact Ca
    iapply (Entails.of_eq (four_eq _).symm) $$ [Ka0 Ka1 Ka2 Ka3]
    iframe Ka0 Ka1 Ka2 Ka3
  isplitl [Ab0 Ab1 Ab2 Ab3 Cb]
  · isplitl [Ab0 Ab1 Ab2 Ab3]
    · iapply (Entails.of_eq (four_eq _).symm) $$ [Ab0 Ab1 Ab2 Ab3]
      iframe Ab0 Ab1 Ab2 Ab3
    iexact Cb
  iapply (Entails.of_eq (four_eq _).symm) $$ [Kb0 Kb1 Kb2 Kb3]
  iframe Kb0 Kb1 Kb2 Kb3

/-- One direction's part of what a device ends with. -/
def finish (ρ : Bool) (c : Dev nD) : sProp 𝕄 := iprop(stand X W ρ c 14 ∗ outS X W ρ c 8 ∗ four (keptHalf X W ρ c · 14))

theorem body_spec (c : Dev nD) :
    iprop(ctx X W K N ∗ opnd X W c ∗ start X W false c ∗ start X W true c ∗ pos c kBar 0 ∗ cred (tallyAt (cell c kBar) 1 2) ∗ owesL c owedAll)
      ⊢ WP c (Steps.body xM wM oM (comm false) (comm true) (ssem false) (rsem false) (ssem true) (rsem true) (osem false) (osem true)
            (csem false) (csem true)) fun _ =>
          iprop(opnd X W c ∗ finish X W false c ∗ finish X W true c ∗ pos c kBar 1 ∗ owesL c []) := by
  unfold Steps.body
  iintro ⟨#Hctx, H⟩
  rw [WP, wp_bind, Prog.lift, wp_deviceId, wp_ret]; imodintro
  iapply (seq_spec (seed_spec X W K N c)) $$ [$H]
  · iexact Hctx
  iintro %_ ⟨H, Hp, Oa, Ob⟩
  iapply (seq_spec (lapSum_spec X W K N c 0 0 rfl)) $$ [$H]
  · iexact Hctx
  iintro %_ H
  iapply (seq_spec (lapSum_spec X W K N c 1 1 rfl)) $$ [$H]
  · iexact Hctx
  iintro %_ H
  iapply (seq_spec (lapSum_spec X W K N c 2 2 rfl)) $$ [$H]
  · iexact Hctx
  iintro %_ H
  iapply (seq_spec (lapSum_spec X W K N c 3 3 rfl)) $$ [$H]
  · iexact Hctx
  iintro %_ H
  iapply (seq_spec (lapSum_spec X W K N c 4 4 rfl)) $$ [$H]
  · iexact Hctx
  iintro %_ H
  iapply (seq_spec (lapSum_spec X W K N c 5 5 rfl)) $$ [$H]
  · iexact Hctx
  iintro %_ H
  iapply (seq_spec (lapSum_spec X W K N c 6 6 rfl)) $$ [$H]
  · iexact Hctx
  iintro %_ H
  unfold lapSum
  icases H with ⟨Hx, ⟨Sa, Ka⟩, ⟨Sb, Kb⟩, Ho⟩
  iapply (seq_spec (putOut_spec X W K N c 0)) $$ [Oa Ka Ob Kb]
  · isplitr; · iexact Hctx
    isplitl [Oa Ka]
    · isplitl [Oa]; · iexact Oa
      iexact Ka
    isplitl [Ob]; · iexact Ob
    iexact Kb
  iintro %_ ⟨Oa, Ob⟩
  iapply (seq_spec (lapPass_spec X W K N c 0 7 0 rfl rfl)) $$ [Sa Oa Sb Ob Ho]
  · isplitr; · iexact Hctx
    unfold lapPass
    iframe Sa Sb Ho
    isplitl [Oa]; · iexact Oa
    iexact Ob
  iintro %_ H
  iapply (seq_spec (lapPass_spec X W K N c 1 8 1 rfl rfl)) $$ [$H]
  · iexact Hctx
  iintro %_ H
  iapply (seq_spec (lapPass_spec X W K N c 2 9 2 rfl rfl)) $$ [$H]
  · iexact Hctx
  iintro %_ H
  iapply (seq_spec (lapPass_spec X W K N c 3 10 3 rfl rfl)) $$ [$H]
  · iexact Hctx
  iintro %_ H
  iapply (seq_spec (lapPass_spec X W K N c 4 11 4 rfl rfl)) $$ [$H]
  · iexact Hctx
  iintro %_ H
  iapply (seq_spec (lapPass_spec X W K N c 5 12 5 rfl rfl)) $$ [$H]
  · iexact Hctx
  iintro %_ H
  iapply (seq_spec (lapPass_spec X W K N c 6 13 6 rfl rfl)) $$ [$H]
  · iexact Hctx
  iintro %_ H
  unfold lapPass
  icases H with ⟨⟨Sa, Oa⟩, ⟨Sb, Ob⟩, Ho⟩
  iapply (last_spec (putWait_spec X W K N c 7 [] (fun j hj => absurd hj List.not_mem_nil))) $$ [Oa Ob Ho]
  · isplitr; · iexact Hctx
    isplitl [Oa]; · iexact Oa
    isplitl [Ob]; · iexact Ob
    iexact Ho
  iintro %_ ⟨⟨Oa, Ka⟩, ⟨Ob, Kb⟩, Ho⟩
  unfold finish
  iframe Hx Sa Sb Hp Ho
  isplitl [Oa Ka]
  · isplitl [Oa]; · iexact Oa
    iexact Ka
  isplitl [Ob]; · iexact Ob
  iexact Kb

end Cert.KernelIdeal.Ring
-- ==== Proof.Close.lean ====
/-
  What is left at the end of the body: every semaphore at zero and both communication buffers whole again.
-/
module

public import proofs.«01_k».proof.Proof.Body

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

theorem close_cell (c : Dev nD) (k : Kind) (R : ℕ) (h : ∀ r, R ≤ r → dutiesOf k r = ∅) :
    iprop(ctx X W K N ∗ pos c k R) ⊢ |={Set.univ}=> semVal (cell c k) 0 := by
  have hd : ∀ r, R ≤ r → (Rd X W).duties (cell c k) r = ∅ := fun r hr => by rw [Rd_duties]; exact h r hr
  unfold pos
  iintro ⟨#Hctx, ⟨Hp, -⟩⟩
  ihave #Hi := (ctx_cell X W K N c k) $$ Hctx
  iapply (cell_close ER (Rd X W) (Set.mem_univ (K (c, k))) (fun h => h) (R := R) hd) $$ [$Hp]
  iexact Hi

theorem close_S (ρ : Bool) (c : Dev nD) (i : Fin 4) (t : ℕ) (ht : 14 ≤ t) :
    iprop(ctx X W K N ∗ posS ρ c i t) ⊢ |={Set.univ}=> semVal (cell c (kS ρ (slot t) i)) 0 := by
  unfold posS
  refine close_cell X W K N c _ _ fun r hr => if_neg ?_
  have h := time_send t
  omega
theorem close_R (ρ : Bool) (c : Dev nD) (i : Fin 4) (t : ℕ) (ht : 14 ≤ t) :
    iprop(ctx X W K N ∗ posR ρ c i t) ⊢ |={Set.univ}=> semVal (cell c (kR ρ (slot (t + 1)) i)) 0 := by
  unfold posR
  refine close_cell X W K N c _ _ fun r hr => if_neg ?_
  have h := time_recv t
  omega

/-- The four semaphores of one quarter, of the sends and of the arrivals. -/
def zeroQ (ρ : Bool) (c : Dev nD) (i : Fin 4) : sProp 𝕄 :=
  iprop((bigSep Finset.univ fun s : Fin 4 => semVal (cell c (kS ρ s i)) 0) ∗ bigSep Finset.univ fun s : Fin 4 => semVal (cell c (kR ρ s i)) 0)

theorem close_quarter (ρ : Bool) (c : Dev nD) (i : Fin 4) :
    iprop(ctx X W K N ∗ stA X W ρ c 14 i) ⊢ |={Set.univ}=> iprop(zeroQ ρ c i ∗ lentHalf X W ρ c i 14) := by
  unfold stA winS winR
  iintro ⟨#Hctx, ⟨H1, ⟨S0, S1, S2, S3⟩, ⟨R0, R1, R2, R3⟩, -, -⟩⟩
  imod (close_S X W K N ρ c i 14 (by omega)) $$ [$S0] with S0
  · iexact Hctx
  imod (close_S X W K N ρ c i (14 + 1) (by omega)) $$ [$S1] with S1
  · iexact Hctx
  imod (close_S X W K N ρ c i (14 + 2) (by omega)) $$ [$S2] with S2
  · iexact Hctx
  imod (close_S X W K N ρ c i (14 + 3) (by omega)) $$ [$S3] with S3
  · iexact Hctx
  imod (close_R X W K N ρ c i 14 (by omega)) $$ [$R0] with R0
  · iexact Hctx
  imod (close_R X W K N ρ c i (14 + 1) (by omega)) $$ [$R1] with R1
  · iexact Hctx
  imod (close_R X W K N ρ c i (14 + 2) (by omega)) $$ [$R2] with R2
  · iexact Hctx
  imod (close_R X W K N ρ c i (14 + 3) (by omega)) $$ [$R3] with R3
  · iexact Hctx
  imodintro
  isplitr [H1]
  · unfold zeroQ
    isplitl [S0 S1 S2 S3]
    · iapply (Entails.of_eq (fin4 _).symm) $$ [S0 S1 S2 S3]
      isplitl [S2]; · iexact S2
      isplitl [S3]; · iexact S3
      isplitl [S0]; · iexact S0
      iexact S1
    · iapply (Entails.of_eq (fin4 _).symm) $$ [R0 R1 R2 R3]
      isplitl [R1]; · iexact R1
      isplitl [R2]; · iexact R2
      isplitl [R3]; · iexact R3
      iexact R0
  iapply (Entails.of_eq (inFl_end X W ρ c i)) $$ H1

theorem close_credit (ρ : Bool) (c : Dev nD) : iprop(ctx X W K N ∗ seen ρ c 11) ⊢ |={Set.univ}=> semVal (cell c (kC ρ)) 0 := by
  have hd : (Rd X W).duties (cell c (kC ρ)) 0 = Finset.range 11 := by rw [Rd_duties]; rfl
  have he : (11 : ℕ) = (Rd X W).expect (cell c (kC ρ)) 0 := by rw [Rd_expect]; rfl
  have hl : ∀ r, 0 + 1 ≤ r → (Rd X W).duties (cell c (kC ρ)) r = ∅ := fun r hr => by
    rw [Rd_duties]; exact if_neg (by omega)
  unfold seen
  iintro ⟨#Hctx, ⟨%T, %hT, Hat, -⟩⟩
  have hT' : T = Finset.range 11 := Finset.eq_of_subset_of_card_le hT.1 (by rw [Finset.card_range]; exact hT.2)
  subst hT'
  ihave #Hi := (ctx_cell X W K N c (kC ρ)) $$ Hctx
  imod (fupd_skip ER (Rd X W) (hd.le) he (Set.mem_univ (K (c, kC ρ)))) $$ [$Hat] with ⟨Hat, -⟩
  · iexact Hi
  iapply (cell_close ER (Rd X W) (Set.mem_univ (K (c, kC ρ))) (fun h => h) (R := 0 + 1) hl) $$ [$Hat]
  iexact Hi

/-- One direction at the end. -/
def ended (ρ : Bool) (c : Dev nD) : sProp 𝕄 :=
  iprop(four (zeroQ ρ c) ∗ semVal (cell c (kC ρ)) 0 ∗ semVal (cell c (kO ρ)) 0 ∗ (∃ Z, owns (c : Thread nD τ) (comm ρ) fullShare Z)
    ∗ filled X W ρ c 8)

theorem close_four (ρ : Bool) (c : Dev nD) :
    iprop(ctx X W K N ∗ four (stA X W ρ c 14)) ⊢ |={Set.univ}=> iprop(four (zeroQ ρ c) ∗ four (lentHalf X W ρ c · 14)) := by
  rw [four_sep]
  unfold four
  refine (sep_mono_left (BI.bigSep_of_persistent (Finset.univ : Finset (Fin 4)) (ctx X W K N))).trans ?_
  refine (Entails.of_eq (bigSep_sep' Finset.univ _ _).symm).trans ?_
  exact (bigSep_mono fun i _ => close_quarter X W K N ρ c i).trans (bigSep_fupd _ _)

theorem slots_back (ρ : Bool) (c : Dev nD) :
    iprop((bigSep (Finset.Ico 11 14) fun s => free ρ c s) ∗ free ρ c 14) ⊢ iprop(∃ Z, owns (c : Thread nD τ) (comm ρ) fullShare Z : sProp 𝕄) := by
  have e : iprop((bigSep (Finset.Ico 11 14) fun s => free (F := F) ρ c s) ∗ free ρ c 14)
      = iprop((free ρ c 11 ∗ free ρ c 12 ∗ free ρ c 13) ∗ free ρ c 14) := by
    rw [show Finset.Ico 11 14 = insert 11 (insert 12 {13}) from rfl, big_insert (by decide), big_insert (by decide), bigSep_singleton]
  rw [e]
  refine BIBase.Entails.trans (Q := bigSep Finset.univ (fun p : Fin 4 × Fin 4 => anyQ c (comm ρ) p.1 p.2)) ?_ (comm_join c (comm ρ))
  rw [bigSep_univ_prod, fin4]
  iintro ⟨⟨H1, H2, H3⟩, H4⟩
  unfold free four
  isplitl [H2]; · iexact H2
  isplitl [H3]; · iexact H3
  isplitl [H4]; · iexact H4
  iexact H1

theorem close_dir (ρ : Bool) (c : Dev nD) : iprop(ctx X W K N ∗ finish X W ρ c) ⊢ |={Set.univ}=> ended X W ρ c := by
  unfold finish stand need toCome give outS
  rw [show min 14 11 = 11 from rfl, show min (14 - 2) 11 = 11 from rfl]
  iintro ⟨#Hctx, ⟨HA, ⟨-, Hs, -⟩, ⟨-, -, -, Hf⟩⟩, ⟨Hp, -, Hd⟩, Hk⟩
  imod (close_four X W K N ρ c) $$ [$HA] with ⟨Hz, Hl⟩
  · iexact Hctx
  imod (close_credit X W K N ρ c) $$ [$Hs] with Hc
  · iexact Hctx
  imod (close_cell X W K N c (kO ρ) 8 (fun r hr => if_neg (by omega))) $$ [$Hp] with Ho
  · iexact Hctx
  imodintro
  ihave H14 := (free_of X W ρ c 14) $$ [$Hl $Hk]
  ihave Hcm := (slots_back ρ c) $$ [$Hf $H14]
  unfold ended
  iframe Hz Hc Ho Hcm Hd

/-- The whole body, with everything given back. -/
theorem body_ends (c : Dev nD) :
    iprop(ctx X W K N ∗ opnd X W c ∗ start X W false c ∗ start X W true c ∗ pos c kBar 0 ∗ cred (tallyAt (cell c kBar) 1 2) ∗ owesL c owedAll)
      ⊢ WP c (Steps.body xM wM oM (comm false) (comm true) (ssem false) (rsem false) (ssem true) (rsem true) (osem false) (osem true)
            (csem false) (csem true)) fun _ =>
          iprop(|={Set.univ}=> (opnd X W c ∗ ended X W false c ∗ ended X W true c ∗ semVal (cell c kBar) 0 ∗ owesL c [])) := by
  iintro ⟨#Hctx, H⟩
  iapply (last_spec (body_spec X W K N c)) $$ [$H]
  · iexact Hctx
  iintro %_ ⟨Hx, Ha, Hb, Hp, Ho⟩
  imod (close_dir X W K N false c) $$ [$Ha] with Ha
  · iexact Hctx
  imod (close_dir X W K N true c) $$ [$Hb] with Hb
  · iexact Hctx
  imod (close_cell X W K N c kBar 1 (fun r hr => if_neg (by omega))) $$ [$Hp] with Hp
  · iexact Hctx
  imodintro
  iframe Hx Ha Hb Hp Ho

/-! ### The semaphores together -/

theorem bigBool (Φ : Bool → sProp 𝕄) : bigSep Finset.univ Φ = iprop(Φ false ∗ Φ true) := by
  rw [bigSep_univ_eq_bigSepL [false, true] (by decide) (by decide) Φ]; rfl
/-- All the kernel's own semaphores, by direction. -/
theorem own_kinds (Φ : OKind → sProp 𝕄) : bigSep Finset.univ Φ
    = iprop((four (fun s => four fun i => Φ (.inl (false, s, i))) ∗ four (fun s => four fun i => Φ (.inl (true, s, i))))
      ∗ (four (fun s => four fun i => Φ (.inr (.inl (false, s, i)))) ∗ four (fun s => four fun i => Φ (.inr (.inl (true, s, i)))))
      ∗ (Φ (.inr (.inr (.inl false))) ∗ Φ (.inr (.inr (.inl true)))) ∗ (Φ (.inr (.inr (.inr false))) ∗ Φ (.inr (.inr (.inr true))))) := by
  rw [bigSep_univ_sum, bigSep_univ_sum, bigSep_univ_sum]
  simp only [bigBool, bigSep_univ_prod]
  rfl
theorem four_swap (Φ : Fin 4 → Fin 4 → sProp 𝕄) : four (fun s => four fun i => Φ s i) = four (fun i => four fun s => Φ s i) := by
  unfold four
  rw [← bigSep_univ_prod (fun p : Fin 4 × Fin 4 => Φ p.1 p.2), ← bigSep_univ_prod (fun p : Fin 4 × Fin 4 => Φ p.2 p.1),
    bigSep_univ_equiv (Equiv.prodComm (Fin 4) (Fin 4)) (fun p => Φ p.1 p.2)]
  rfl
theorem zero_four (ρ : Bool) (c : Dev nD) : four (F := F) (zeroQ ρ c)
    = iprop(four (fun s => four fun i => semVal (cell c (kS ρ s i)) 0) ∗ four (fun s => four fun i => semVal (cell c (kR ρ s i)) 0)) := by
  rw [four_swap (fun s i => semVal (cell c (kS ρ s i)) 0), four_swap (fun s i => semVal (cell c (kR ρ s i)) 0), four_sep]
  rfl
theorem own_zero (c : Dev nD) :
    iprop((four (zeroQ false c) ∗ semVal (cell c (kC false)) 0 ∗ semVal (cell c (kO false)) 0)
        ∗ (four (zeroQ true c) ∗ semVal (cell c (kC true)) 0 ∗ semVal (cell c (kO true)) 0))
      ⊢ (Pipeline.ownSems0 (Ix := ℕ) (Name := ℕ) (U := UU) (Lvl := ℕ) (Val := Elt F) (τ := τ) osemOf c : sProp 𝕄) := by
  unfold Pipeline.ownSems0
  rw [own_kinds, zero_four, zero_four]
  iintro ⟨⟨⟨Sa, Ra⟩, Ca, Oa⟩, ⟨⟨Sb, Rb⟩, Cb, Ob⟩⟩
  iframe Sa Ra Ca Oa Sb Rb Cb Ob

end Cert.KernelIdeal.Ring
-- ==== Proof.Fund.lean ====
module

public import proofs.«01_k».proof.Proof.Close

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### The ghost state made at the launch -/

/-- The names of the rounds: a device's semaphores, and its two counts of slots given up. -/
abbrev Spot : Type := Kind ⊕ Bool
/-- The tokens of one direction that are made at a device: of its sends, of its arrivals, of the meeting at entry, of the
    credits it receives, of its copies to the result, of the slots it gives up. -/
abbrev TokD : Type := (Fin 4 × Fin 14) ⊕ (Fin 4 × Fin 14) ⊕ Unit ⊕ Fin 11 ⊕ Fin 8 ⊕ Fin 11
abbrev TokK : Type := Bool × TokD

/-- Where a token is made: the round and the duty within it. -/
def tokLoc : TokK → Spot × ℕ × ℕ
  | (ρ, .inl (i, t)) => (.inl (kS ρ (slot t) i), t / 4, 0)
  | (ρ, .inr (.inl (i, t))) => (.inl (kR ρ (slot (t + 1)) i), t / 4, 0)
  | (ρ, .inr (.inr (.inl _))) => (.inl kBar, 0, side ρ)
  | (ρ, .inr (.inr (.inr (.inl k)))) => (.inl (kC ρ), 0, k)
  | (ρ, .inr (.inr (.inr (.inr (.inl r))))) => (.inl (kO ρ), r, 0)
  | (ρ, .inr (.inr (.inr (.inr (.inr k))))) => (.inr ρ, k, 0)
instance : DecidableEq Spot := instDecidableEqSum
instance : DecidableEq TokD := inferInstance
instance : Fintype TokD := inferInstance
instance : DecidableEq TokK := inferInstance
instance : Fintype TokK := inferInstance
theorem tokLoc_inj : Function.Injective tokLoc := by decide +kernel

abbrev tokOf (p : Dev nD × TokK) : GSem nD τ sig × ℕ × ℕ := (key (p.1, (tokLoc p.2).1), (tokLoc p.2).2)
theorem tokOf_inj : Function.Injective tokOf := fun p q h => by
  have h0 := Prod.mk.inj h
  have h1 := Prod.mk.inj (key_inj h0.1)
  exact Prod.ext h1.1 (tokLoc_inj (Prod.ext h1.2 h0.2))

def spots : Finset (GSem nD τ sig) := Finset.univ.map ⟨key, key_inj⟩
def allToks : Finset (GSem nD τ sig × ℕ × ℕ) := Finset.univ.map ⟨tokOf, tokOf_inj⟩

def tok (c : Dev nD) (j : TokK) : sProp 𝕄 := dutyTok ER (key (c, (tokLoc j).1)) (tokLoc j).2.1 (tokLoc j).2.2
/-- A place at the start. -/
def at0 (c : Dev nD) (q : Spot) : sProp 𝕄 := iprop(atPos ER (key (c, q)) 0 ∅ 0 ∗ reached ER (key (c, q)) 0)

/-- What is made at device `c`. -/
def G (c : Dev nD) : sProp 𝕄 :=
  iprop((bigSep Finset.univ fun q : Spot => initState ER (key (c, q))) ∗ (bigSep Finset.univ fun q : Spot => at0 c q)
    ∗ bigSep Finset.univ fun j : TokK => tok c j)

theorem fund_ring : BI.own (ER (F := F) (initOf spots allToks)) ⊢ (|==> bigSep Finset.univ (G (F := F)) : sProp 𝕄) := by
  have hS (Φ : GSem nD τ sig → sProp 𝕄) : bigSep spots Φ = bigSep Finset.univ fun c : Dev nD => bigSep Finset.univ fun q : Spot => Φ (key (c, q)) := by
    unfold spots; rw [bigSep_map, bigSep_univ_prod]; rfl
  have hT : bigSep allToks (fun x => (dutyTok ER x.1 x.2.1 x.2.2 : sProp 𝕄)) = bigSep Finset.univ fun c : Dev nD => bigSep Finset.univ fun j : TokK => tok c j := by
    unfold allToks; rw [bigSep_map, bigSep_univ_prod]; rfl
  iintro H
  imod (Rounds.fund_init ER spots allToks) $$ H with ⟨Hst, Hr, Hat, Htok⟩
  imodintro
  ihave Hst := (Entails.of_eq (hS fun g => initState ER g)) $$ Hst
  ihave Hat := (Entails.of_eq (hS fun g => atPos ER g 0 ∅ 0)) $$ Hat
  ihave Hr := (Entails.of_eq (hS fun g => reached ER g 0)) $$ Hr
  ihave Htok := (Entails.of_eq hT) $$ Htok
  unfold G at0
  simp only [bigSep_sep']
  iframe Hst Hat Hr Htok

/-! ### Round the ring -/

/-- Whom a token made at a device goes to: `c` receives those made at `mv j c`. -/
def mv : TokK → (Dev nD ≃ Dev nD)
  | (_, .inl _) => Equiv.refl _
  | (ρ, .inr (.inl _)) => around ρ
  | (ρ, .inr (.inr (.inl _))) => (around ρ).symm
  | (ρ, .inr (.inr (.inr (.inl _)))) => (around ρ).symm
  | (_, .inr (.inr (.inr (.inr (.inl _))))) => Equiv.refl _
  | (ρ, .inr (.inr (.inr (.inr (.inr _))))) => around ρ

theorem deal {J : Type} [Fintype J] (mv : J → (Dev nD ≃ Dev nD)) (Φ : Dev nD → J → sProp 𝕄) :
    (bigSep Finset.univ fun c => bigSep Finset.univ fun j => Φ c j) = bigSep Finset.univ fun c => bigSep Finset.univ fun j => Φ (mv j c) j := by
  have sw (Ψ : Dev nD → J → sProp 𝕄) : (bigSep Finset.univ fun c => bigSep Finset.univ fun j => Ψ c j)
      = bigSep Finset.univ fun j => bigSep Finset.univ fun c => Ψ c j := by
    rw [← bigSep_univ_prod (fun p : Dev nD × J => Ψ p.1 p.2), bigSep_univ_equiv (Equiv.prodComm J (Dev nD)), bigSep_univ_prod]
    rfl
  rw [sw, sw]
  exact bigSep_congr fun j _ => bigSep_univ_equiv (mv j) fun c => Φ c j

/-- What a device holds of one direction when its body starts, but for credits, slots and blocks. -/
def kit (ρ : Bool) (c : Dev nD) : sProp 𝕄 :=
  iprop(four (fun i => iprop(winS ρ c i 0 ∗ winR ρ c i 0 ∗ toks ρ c i 0))
    ∗ (reached ER (cell (src ρ c) kBar) 0 ∗ dutyTok ER (cell (src ρ c) kBar) 0 (side ρ))
    ∗ (seen ρ c 0 ∗ bigSep (Finset.Ico 0 11) fun k => dutyTok ER (gave ρ (dst ρ c)) k 0)
    ∗ give ρ c 0
    ∗ (pos c (kO ρ) 0 ∗ bigSep (Finset.Ico 0 8) fun j => dutyTok ER (cell c (kO ρ)) j 0))

theorem big_fin (n : ℕ) (Φ : ℕ → sProp 𝕄) : (bigSep Finset.univ fun j : Fin n => Φ j.val) = bigSep (Finset.Ico 0 n) Φ := by
  rw [show Finset.Ico 0 n = Finset.univ.map (Fin.valEmbedding (n := n)) from by
    ext x
    simp only [Finset.mem_Ico, Finset.mem_map, Finset.mem_univ, true_and, Nat.zero_le, Fin.valEmbedding_apply]
    exact ⟨fun h => ⟨⟨x, h⟩, rfl⟩, fun ⟨a, h⟩ => h ▸ a.isLt⟩, bigSep_map]
  rfl

theorem bigSum {A B : Type} [Fintype A] [Fintype B] (Φ : A ⊕ B → sProp 𝕄) : bigSep Finset.univ Φ
    = iprop((bigSep Finset.univ fun a => Φ (.inl a)) ∗ bigSep Finset.univ fun b => Φ (.inr b)) := bigSep_univ_sum Φ

theorem sep_left (P Q R : sProp 𝕄) : iprop(P ∗ Q ∗ R) = iprop((P ∗ Q) ∗ R) := by
  have h1 : iprop(P ∗ Q ∗ R) ⊢ iprop((P ∗ Q) ∗ R) := by iintro ⟨H1, H2, H⟩; iframe H1 H2 H
  have h2 : iprop((P ∗ Q) ∗ R) ⊢ iprop(P ∗ Q ∗ R) := by iintro ⟨⟨H1, H2⟩, H⟩; iframe H1 H2 H
  exact BI.Entails.antisymm h1 h2

/-- The tokens that come to device `c` in one direction. -/
def dealt (ρ : Bool) (c : Dev nD) : sProp 𝕄 :=
  iprop(four (fun i => toks ρ c i 0) ∗ dutyTok ER (cell (src ρ c) kBar) 0 (side ρ)
    ∗ (bigSep (Finset.Ico 0 11) fun k => dutyTok ER (cell (src ρ c) (kC ρ)) 0 k)
    ∗ (bigSep (Finset.Ico 0 8) fun j => dutyTok ER (cell c (kO ρ)) j 0)
    ∗ bigSep (Finset.Ico 0 11) fun k => dutyTok ER (gave ρ (dst ρ c)) k 0)

theorem dealt_of (ρ : Bool) (c : Dev nD) : (bigSep Finset.univ fun j : TokD => tok (mv (ρ, j) c) (ρ, j)) = dealt (F := F) ρ c := by
  rw [bigSum, bigSum, bigSum, bigSum, bigSum, bigSep_univ_prod, bigSep_univ_prod]
  unfold dealt toks
  simp only [bigSep_sep']
  rw [← four_sep]
  have e1 : (bigSep Finset.univ fun i : Fin 4 => bigSep Finset.univ fun t : Fin 14 => tok (F := F) (mv (ρ, .inl (i, t)) c) (ρ, .inl (i, t)))
      = four fun i => bigSep (Finset.Ico 0 14) fun t => dutyTok ER (cell c (kS ρ (slot t) i)) (t / 4) 0 :=
    bigSep_congr fun i _ => big_fin 14 fun t => dutyTok ER (cell c (kS ρ (slot t) i)) (t / 4) 0
  have e2 : (bigSep Finset.univ fun i : Fin 4 => bigSep Finset.univ fun t : Fin 14 => tok (F := F) (mv (ρ, .inr (.inl (i, t))) c) (ρ, .inr (.inl (i, t))))
      = four fun i => bigSep (Finset.Ico 0 14) fun t => dutyTok ER (cell (dst ρ c) (kR ρ (slot (t + 1)) i)) (t / 4) 0 :=
    bigSep_congr fun i _ => big_fin 14 fun t => dutyTok ER (cell (dst ρ c) (kR ρ (slot (t + 1)) i)) (t / 4) 0
  have e3 : (bigSep Finset.univ fun k : Fin 11 => tok (F := F) (mv (ρ, .inr (.inr (.inr (.inl k)))) c) (ρ, .inr (.inr (.inr (.inl k)))))
      = bigSep (Finset.Ico 0 11) fun k => dutyTok ER (cell (src ρ c) (kC ρ)) 0 k := big_fin 11 fun k => dutyTok ER (cell (src ρ c) (kC ρ)) 0 k
  have e4 : (bigSep Finset.univ fun k : Fin 8 => tok (F := F) (mv (ρ, .inr (.inr (.inr (.inr (.inl k))))) c) (ρ, .inr (.inr (.inr (.inr (.inl k))))))
      = bigSep (Finset.Ico 0 8) fun j => dutyTok ER (cell c (kO ρ)) j 0 := big_fin 8 fun j => dutyTok ER (cell c (kO ρ)) j 0
  have e5 : (bigSep Finset.univ fun k : Fin 11 => tok (F := F) (mv (ρ, .inr (.inr (.inr (.inr (.inr k))))) c) (ρ, .inr (.inr (.inr (.inr (.inr k))))))
      = bigSep (Finset.Ico 0 11) fun k => dutyTok ER (gave ρ (dst ρ c)) k 0 := big_fin 11 fun k => dutyTok ER (gave ρ (dst ρ c)) k 0
  have e6 : (bigSep Finset.univ fun k : Unit => tok (F := F) (mv (ρ, .inr (.inr (.inl k))) c) (ρ, .inr (.inr (.inl k))))
      = dutyTok ER (cell (src ρ c) kBar) 0 (side ρ) := bigSep_singleton
  rw [e1, e2, e3, e4, e5, e6]
  exact sep_left _ _ _

theorem toks_dealt : (bigSep Finset.univ fun c : Dev nD => bigSep Finset.univ fun j : TokK => tok (F := F) c j)
    = bigSep Finset.univ fun c : Dev nD => iprop(dealt false c ∗ dealt true c) := by
  rw [deal mv]
  refine bigSep_congr fun c _ => ?_
  rw [bigSep_univ_prod (fun p : Bool × TokD => tok (F := F) (mv p c) p), bigBool]
  rw [dealt_of, dealt_of]

/-! ### Places -/

/-- The places of one direction. -/
def places (ρ : Bool) (c : Dev nD) : sProp 𝕄 :=
  iprop(four (fun i => iprop(winS ρ c i 0 ∗ winR ρ c i 0)) ∗ pos c (kC ρ) 0 ∗ pos c (kO ρ) 0 ∗ atPos ER (gave ρ c) 0 ∅ 0)

theorem winS_of (ρ : Bool) (c : Dev nD) (i : Fin 4) : (four fun s => at0 c (.inl (kS ρ s i))) ⊢ winS (F := F) ρ c i 0 := by
  unfold four at0; rw [fin4]
  iintro ⟨H0, H1, H2, H3⟩
  unfold winS posS pos
  isplitl [H0]; · iexact H0
  isplitl [H1]; · iexact H1
  isplitl [H2]; · iexact H2
  iexact H3
theorem winR_of (ρ : Bool) (c : Dev nD) (i : Fin 4) : (four fun s => at0 c (.inl (kR ρ s i))) ⊢ winR (F := F) ρ c i 0 := by
  unfold four at0; rw [fin4]
  iintro ⟨H0, H1, H2, H3⟩
  unfold winR posR pos
  isplitl [H1]; · iexact H1
  isplitl [H2]; · iexact H2
  isplitl [H3]; · iexact H3
  iexact H0
theorem wins_of (ρ : Bool) (c : Dev nD) :
    iprop((four fun s => four fun i => at0 c (.inl (kS ρ s i))) ∗ four fun s => four fun i => at0 c (.inl (kR ρ s i)))
      ⊢ four (F := F) fun i => iprop(winS ρ c i 0 ∗ winR ρ c i 0) := by
  rw [four_swap (fun s i => at0 c (.inl (kS ρ s i))), four_swap (fun s i => at0 c (.inl (kR ρ s i))), ← four_sep (fun i => winS ρ c i 0) (fun i => winR ρ c i 0)]
  exact BI.sep_mono (bigSep_mono fun i _ => winS_of ρ c i) (bigSep_mono fun i _ => winR_of ρ c i)

theorem places_of (c : Dev nD) : (bigSep Finset.univ fun q : Spot => at0 c q) ⊢ iprop(places (F := F) false c ∗ places true c ∗ pos c kBar 0) := by
  rw [bigSum, bigSum, own_kinds, bigBool]
  iintro ⟨⟨Hb, ⟨Sa, Sb⟩, ⟨Ra, Rb⟩, ⟨Ca, Cb⟩, ⟨Oa, Ob⟩⟩, ⟨Ga, Gb⟩⟩
  ihave Ha := (wins_of false c) $$ [$Sa $Ra]
  ihave Hc := (wins_of true c) $$ [$Sb $Rb]
  ihave Hb := (big_elim (Φ := fun u : Unit => at0 (F := F) c (.inl (.inl u))) (Finset.mem_univ ())) $$ Hb
  unfold places at0 pos
  icases Ga with ⟨Ga, -⟩
  icases Gb with ⟨Gb, -⟩
  isplitl [Ha Ca Oa Ga]; · iframe Ha Ca Oa Ga
  isplitl [Hc Cb Ob Gb]; · iframe Hc Cb Ob Gb
  iexact Hb

theorem reached_places (c : Dev nD) : (bigSep Finset.univ fun q : Spot => at0 (F := F) c q)
    ⊢ iprop((bigSep Finset.univ fun q : Spot => at0 c q) ∗ bigSep Finset.univ fun q : Spot => reached ER (key (c, q)) 0) := by
  unfold at0
  rw [bigSep_sep']
  iintro ⟨H, #Hr⟩
  iframe H #

theorem kit_of (ρ : Bool) (c : Dev nD) :
    iprop((bigSep Finset.univ fun p : Dev nD × Spot => reached ER (key p) 0) ∗ places ρ c ∗ dealt ρ c) ⊢ kit (F := F) ρ c := by
  iintro ⟨#Hr, HP, HD⟩
  ihave #H1 := (big_elim (Φ := fun p : Dev nD × Spot => (reached ER (key p) 0 : sProp 𝕄)) (Finset.mem_univ (src ρ c, .inl kBar))) $$ Hr
  ihave #H2 := (big_elim (Φ := fun p : Dev nD × Spot => (reached ER (key p) 0 : sProp 𝕄)) (Finset.mem_univ (src ρ c, .inl (kC ρ)))) $$ Hr
  unfold places dealt kit
  icases HP with ⟨Hw, Hc, Ho, Hg⟩
  icases HD with ⟨Ht, Hb, Hcr, Hout, Htk⟩
  isplitl [Hw Ht]
  · simp only [← four_sep]
    icases Hw with ⟨H, H'⟩
    iframe H H' Ht
  isplitl [Hb]; · iframe Hb; iexact H1
  isplitl [Hc Htk]
  · iframe Htk
    unfold seen pos
    iexists ∅
    icases Hc with ⟨Hc, -⟩
    isplitr; · ipureintro; exact ⟨Finset.empty_subset _, Nat.zero_le _⟩
    isplitl [Hc]; · iexact Hc
    rw [bigSep_empty]; iempintro
  isplitl [Hg Hcr]
  · unfold give
    isplitl [Hg]; · iexact Hg
    isplitl [Hcr]; · iexact Hcr
    isplitr; · iexact H2
    rw [show Finset.Ico 11 0 = ∅ from rfl, bigSep_empty]; iempintro
  iframe Ho Hout

end Cert.KernelIdeal.Ring
-- ==== Proof.Earn.lean ====
module

public import proofs.«01_k».proof.Proof.Fund

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### What is owed to a device at the start -/

/-- Whom a debtor pays. -/
def goes : Debt → (Dev nD ≃ Dev nD)
  | .bar ρ => (around ρ).symm
  | .send ρ _ _ => around ρ
  | .credit ρ _ => (around ρ).symm
def kindD : Debt → Kind
  | .bar _ => kBar
  | .send ρ t i => kR ρ (slot (t + 1)) i
  | .credit ρ _ => kC ρ
theorem payee_eq (d : Dev nD) (j : Debt) : payee d j = cell (goes j d) (kindD j) := by cases j <;> rfl
/-- One debt, seen from the device that is owed. -/
def earned (c : Dev nD) (j : Debt) : sProp 𝕄 := cred (tallyAt (cell c (kindD j)) (level j) (amt j))

theorem due_at (d c : Dev nD) (j : Debt) (u : ℕ) :
    due d j (cell c (kindD j)) u = if d = (goes j).symm c then (if u = level j then amt j else 0) else 0 := by
  unfold due
  rw [tallyAt_apply, payee_eq]
  by_cases h : d = (goes j).symm c
  · rw [if_pos h, h, Equiv.apply_symm_apply]
    by_cases hu : u = level j
    · rw [if_pos ⟨rfl, hu⟩, if_pos hu]
    · rw [if_neg (fun h => hu h.2), if_neg hu]
  · rw [if_neg h, if_neg (fun hh => h (by rw [(cell_inj hh.1).1, Equiv.symm_apply_apply]))]

theorem launch_one (c : Dev nD) (j : Debt) : (Pipeline.launchCred (fun d => due d j) c : sProp 𝕄) ⊢ earned c j := by
  have e : tallyOn (cell c (kindD j)) (launchCredit (Pipeline.owing fun d => due d j) 0 (cell c (kindD j)))
      = (tallyAt (cell c (kindD j)) (level j) (amt j) : CellTallies nD τ sig ℕ) := by
    unfold tallyAt
    refine congrArg _ (Finsupp.ext fun u => ?_)
    rw [Pipeline.launchCredit_owing, Finset.sum_congr rfl fun d _ => due_at d c j u,
      Finset.sum_ite_eq' Finset.univ ((goes j).symm c), if_pos (Finset.mem_univ _), Finsupp.single_apply]
    by_cases hu : u = level j
    · rw [if_pos hu, if_pos hu.symm]
    · rw [if_neg hu, if_neg (fun h => hu h.symm)]
  unfold Pipeline.launchCred earned
  rw [← e]
  exact big_elim (Φ := fun sm : SemLoc sig => (cred (tallyOn ((c : Thread nD τ), sm) (launchCredit (Pipeline.owing fun d => due d j) 0 ((c : Thread nD τ), sm))) : sProp 𝕄))
    (Finset.mem_univ (semOf (kindD j)))

/-- A list of debts, seen from the device that is owed. -/
def earnedL (c : Dev nD) : List Debt → sProp 𝕄
  | [] => iprop(emp)
  | j :: l => iprop(earned c j ∗ earnedL c l)
theorem earnedL_app (c : Dev nD) (l l' : List Debt) : earnedL (F := F) c (l ++ l') ⊢ iprop(earnedL c l ∗ earnedL c l') := by
  induction l with
  | nil => rw [List.nil_append, earnedL]; iintro H; isplitr; · iempintro
           iexact H
  | cons j l ih =>
    rw [List.cons_append, earnedL, earnedL]
    iintro ⟨Hj, H⟩
    ihave H := ih $$ H
    icases H with ⟨H1, H2⟩
    iframe Hj H1 H2
theorem launch_list (c : Dev nD) (l : List Debt) : (Pipeline.launchCred (fun d => dues d l) c : sProp 𝕄) ⊢ earnedL c l := by
  induction l with
  | nil => rw [earnedL]; iintro -; iempintro
  | cons j l ih =>
    rw [show (fun d => dues d (j :: l)) = fun d => dues d l + due d j from funext fun d => dues_cons d j l, Pipeline.launchCred_add, earnedL]
    iintro ⟨H1, H2⟩
    ihave H1 := ih $$ H1
    ihave H2 := (launch_one c j) $$ H2
    iframe H1 H2

/-- The credits that device `c` is to receive in one direction from the `t`-th on. -/
def credsC (ρ : Bool) (c : Dev nD) (t : ℕ) : sProp 𝕄 := bigSep (Finset.Ico t 11) fun k => cred (tallyAt (cell c (kC ρ)) (2 * k + 3) 1)
/-- The arrivals of a quarter from time `t` on, in both directions. -/
def credsQ (c : Dev nD) (i : Fin 4) (t : ℕ) : sProp 𝕄 := iprop(creds false c i t ∗ creds true c i t)

theorem creds_more (ρ : Bool) (c : Dev nD) (i : Fin 4) (t : ℕ) (h : t ≤ 13) :
    iprop(earned c (.send ρ t i) ∗ creds ρ c i (t + 1)) ⊢ creds (F := F) ρ c i t := by
  unfold creds
  exact Entails.of_eq (big_from (Φ := fun t => (cred (tallyAt (cell c (kR ρ (slot (t + 1)) i)) (2 * t + 2) NQ) : sProp 𝕄)) (by omega)).symm
theorem credsC_more (ρ : Bool) (c : Dev nD) (t : ℕ) (h : t ≤ 10) :
    iprop(earned c (.credit ρ t) ∗ credsC ρ c (t + 1)) ⊢ credsC (F := F) ρ c t := by
  unfold credsC
  exact Entails.of_eq (big_from (Φ := fun k => (cred (tallyAt (cell c (kC ρ)) (2 * k + 3) 1) : sProp 𝕄)) (by omega)).symm
theorem pair_more (c : Dev nD) (i : Fin 4) (t : ℕ) : iprop(earnedL c (pair t i) ∗ credsQ c i (t + 2)) ⊢ credsQ (F := F) c i (t + 1) := by
  by_cases h : t ≤ 12
  · have e : pair t i = [.send false (t + 1) i, .send true (t + 1) i] := if_pos h
    rw [e, earnedL, earnedL, earnedL]
    unfold credsQ
    iintro ⟨⟨H1, H2, -⟩, Ha, Hb⟩
    ihave Ha := (creds_more false c i (t + 1) (by omega)) $$ [$H1 $Ha]
    ihave Hb := (creds_more true c i (t + 1) (by omega)) $$ [$H2 $Hb]
    iframe Ha Hb
  · unfold credsQ creds
    rw [Finset.Ico_eq_empty (show ¬ t + 1 < 14 from by omega), bigSep_empty, bigSep_empty]
    iintro -
    isplitl <;> iempintro
theorem pair0_more (c : Dev nD) (i : Fin 4) : iprop(earnedL c (pair0 i) ∗ credsQ c i 1) ⊢ credsQ (F := F) c i 0 := by
  unfold pair0
  rw [earnedL, earnedL, earnedL]
  unfold credsQ
  iintro ⟨⟨H1, H2, -⟩, Ha, Hb⟩
  ihave Ha := (creds_more false c i 0 (by omega)) $$ [$H1 $Ha]
  ihave Hb := (creds_more true c i 0 (by omega)) $$ [$H2 $Hb]
  iframe Ha Hb
theorem lent_more (c : Dev nD) (t : ℕ) :
    iprop(earnedL c (lent t) ∗ credsC false c (t + 1) ∗ credsC true c (t + 1)) ⊢ iprop(credsC (F := F) false c t ∗ credsC true c t) := by
  by_cases h : t ≤ 10
  · have e : lent t = [.credit false t, .credit true t] := if_pos h
    rw [e, earnedL, earnedL, earnedL]
    iintro ⟨⟨H1, H2, -⟩, Ha, Hb⟩
    ihave Ha := (credsC_more false c t h) $$ [$H1 $Ha]
    ihave Hb := (credsC_more true c t h) $$ [$H2 $Hb]
    iframe Ha Hb
  · unfold credsC
    rw [Finset.Ico_eq_empty (show ¬ t < 11 from by omega), bigSep_empty, bigSep_empty]
    iintro -
    isplitl <;> iempintro

theorem owed_earned (c : Dev nD) (n : ℕ) : ∀ t, t + n = 14 →
    (earnedL (F := F) c (owed t) ⊢ iprop(four (fun i => credsQ c i (t + 1)) ∗ credsC false c t ∗ credsC true c t)) := by
  induction n with
  | zero =>
    intro t ht
    unfold four credsQ creds credsC
    rw [Finset.Ico_eq_empty (show ¬ t + 1 < 14 from by omega), Finset.Ico_eq_empty (show ¬ t < 11 from by omega), fin4]
    simp only [bigSep_empty]
    iintro -
    repeat' isplitl
    all_goals iempintro
  | succ n ih =>
    intro t ht
    rw [owed_step (by omega)]
    iintro H
    ihave H := (earnedL_app c _ _) $$ H
    icases H with ⟨H0, H⟩
    ihave H := (earnedL_app c _ _) $$ H
    icases H with ⟨H1, H⟩
    ihave H := (earnedL_app c _ _) $$ H
    icases H with ⟨H2, H⟩
    ihave H := (earnedL_app c _ _) $$ H
    icases H with ⟨H3, H⟩
    ihave H := (earnedL_app c _ _) $$ H
    icases H with ⟨Hl, H⟩
    ihave H := (ih (t + 1) (by omega)) $$ H
    icases H with ⟨H, Hc⟩
    ihave Hc := (lent_more c t) $$ [$Hl $Hc]
    iframe Hc
    unfold four
    simp only [fin4]
    icases H with ⟨Q0, Q1, Q2, Q3⟩
    ihave Q0 := (pair_more c 0 t) $$ [$H0 $Q0]
    ihave Q1 := (pair_more c 1 t) $$ [$H1 $Q1]
    ihave Q2 := (pair_more c 2 t) $$ [$H2 $Q2]
    ihave Q3 := (pair_more c 3 t) $$ [$H3 $Q3]
    iframe Q0 Q1 Q2 Q3

theorem bar_earned (c : Dev nD) : iprop(earned c (.bar false) ∗ earned c (.bar true)) ⊢ (cred (tallyAt (cell c kBar) 1 2) : sProp 𝕄) := by
  rw [show (tallyAt (cell c kBar) 1 2 : CellTallies nD τ sig ℕ) = tallyAt (cell c kBar) 1 1 + tallyAt (cell c kBar) 1 1 from (tallyAt_add _ _ 1 1).symm]
  exact (cred_add _ _).2

/-- All that a device is owed at the start. -/
theorem all_earned (c : Dev nD) : (Pipeline.launchCred (fun d => dues d owedAll) c : sProp 𝕄)
    ⊢ iprop(cred (tallyAt (cell c kBar) 1 2) ∗ (four (fun i => creds false c i 0) ∗ credsC false c 0) ∗ (four (fun i => creds true c i 0) ∗ credsC true c 0)) := by
  refine (launch_list c owedAll).trans ?_
  unfold owedAll
  rw [earnedL, earnedL]
  iintro ⟨Ha, Hb, H⟩
  ihave Hbar := (bar_earned c) $$ [$Ha $Hb]
  iframe Hbar
  unfold owedSeed
  ihave H := (earnedL_app c _ _) $$ H
  icases H with ⟨H0, H⟩
  ihave H := (earnedL_app c _ _) $$ H
  icases H with ⟨H1, H⟩
  ihave H := (earnedL_app c _ _) $$ H
  icases H with ⟨H2, H⟩
  ihave H := (earnedL_app c _ _) $$ H
  icases H with ⟨H3, H⟩
  ihave H := (owed_earned c 14 0 rfl) $$ H
  unfold four
  simp only [fin4]
  icases H with ⟨⟨Q0, Q1, Q2, Q3⟩, Ca, Cb⟩
  iframe Ca Cb
  ihave Q0 := (pair0_more c 0) $$ [$H0 $Q0]
  ihave Q1 := (pair0_more c 1) $$ [$H1 $Q1]
  ihave Q2 := (pair0_more c 2) $$ [$H2 $Q2]
  ihave Q3 := (pair0_more c 3) $$ [$H3 $Q3]
  unfold credsQ
  icases Q0 with ⟨A0, B0⟩
  icases Q1 with ⟨A1, B1⟩
  icases Q2 with ⟨A2, B2⟩
  icases Q3 with ⟨A3, B3⟩
  iframe A0 A1 A2 A3 B0 B1 B2 B3

end Cert.KernelIdeal.Ring
-- ==== Proof.Glob.lean ====
module

public import proofs.«01_k».proof.Proof.Earn

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### What everyone knows, made at the launch -/

/-- What the semaphores stand for, and the pools. -/
def knows : sProp 𝕄 :=
  iprop((bigSep Finset.univ fun p : Dev nD × Kind => cellInv ER (Rd X W) (K p) (cell p.1 p.2))
    ∗ bigSep Finset.univ fun p : Dev nD × Bool => inv (N p) (pool p.2 p.1))
instance knows_persistent : BI.Persistent (knows X W K N) := by unfold knows; infer_instance

/-- What device `c` has when everything is dealt. -/
def G' (c : Dev nD) : sProp 𝕄 :=
  iprop((∃ K N, knows X W K N) ∗ kit false c ∗ kit true c ∗ pos c kBar 0)

theorem unscoped_eq (c : Dev nD) : (unscopedSems0 c : sProp 𝕄) = semVal (cell c kBar) 0 := by
  unfold unscopedSems0; rw [bigSep_eq_bigSepL_of_eq [SemLoc.reg barSem] (by decide +kernel) (by decide +kernel)]; rfl

theorem sems_of (c : Dev nD) :
    iprop(Pipeline.ownSems0 (Ix := ℕ) (Name := ℕ) (U := UU) (Lvl := ℕ) (Val := Elt F) (τ := τ) osemOf c ∗ unscopedSems0 c)
      ⊢ (bigSep Finset.univ fun k : Kind => semVal (cell c k) 0 : sProp 𝕄) := by
  rw [bigSum, unscoped_eq]
  unfold Pipeline.ownSems0
  iintro ⟨H, Hb⟩
  isplitl [Hb]
  · iapply (Entails.of_eq (bigSep_singleton (i := ()) (Φ := fun u : Unit => (semVal (cell c (.inl u)) 0 : sProp 𝕄))).symm) $$ Hb
  iexact H

theorem pool_start (ρ : Bool) (c : Dev nD) : initState ER (gave ρ c) ⊢ pool (F := F) ρ c := by
  unfold initState pool
  iintro ⟨H, -⟩
  iexists 0
  isplitl; · iexact H
  rw [Finset.range_zero, bigSep_empty]; iempintro

theorem core_alloc (c : Dev nD) :
    iprop((bigSep Finset.univ fun k : Kind => semVal (cell c k) 0) ∗ bigSep Finset.univ fun q : Spot => initState ER (key (c, q)))
      ⊢ |={Set.univ}=> iprop((bigSep Finset.univ fun k : Kind => iprop(∃ κ : ℕ, cellInv ER (Rd X W) κ (cell c k)))
          ∗ bigSep Finset.univ fun ρ : Bool => iprop(∃ n : ℕ, inv n (pool (F := F) ρ c))) := by
  have h1 : iprop((bigSep Finset.univ fun k : Kind => semVal (cell c k) 0) ∗ bigSep Finset.univ fun k : Kind => initState ER (cell c k))
      ⊢ (|={Set.univ}=> bigSep Finset.univ fun k : Kind => iprop(∃ κ : ℕ, cellInv ER (Rd X W) κ (cell c k)) : sProp 𝕄) := by
    rw [← bigSep_sep']
    refine (bigSep_mono fun k _ => ?_).trans (bigSep_fupd _ _)
    exact ((sep_mono_right (Rounds.roundState_init ER (Rd X W))).trans (Rounds.body_intro ER (Rd X W) (cell c k))).trans inv_alloc
  have h2 : (bigSep Finset.univ fun ρ : Bool => initState ER (gave ρ c))
      ⊢ (|={Set.univ}=> bigSep Finset.univ fun ρ : Bool => iprop(∃ n : ℕ, inv n (pool (F := F) ρ c)) : sProp 𝕄) :=
    (bigSep_mono fun ρ _ => (pool_start ρ c).trans inv_alloc).trans (bigSep_fupd _ _)
  rw [bigSum (fun q : Spot => initState ER (key (c, q)))]
  iintro ⟨Hv, Hst, Hg⟩
  imod h1 $$ [$Hv $Hst] with H1
  imod h2 $$ Hg with H2
  imodintro
  iframe H1 H2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S _ _).symm).trans (bigSep_mono h))

instance : DecidableEq Kind := instDecidableEqSum
instance : DecidableEq (Dev nD × Kind) := instDecidableEqProd

theorem deal_out :
    (bigSep Finset.univ fun c : Dev nD => iprop(((bigSep Finset.univ fun k : Kind => iprop(∃ κ : ℕ, cellInv ER (Rd X W) κ (cell c k)))
          ∗ bigSep Finset.univ fun ρ : Bool => iprop(∃ n : ℕ, inv n (pool (F := F) ρ c)))
        ∗ (bigSep Finset.univ fun q : Spot => at0 c q) ∗ bigSep Finset.univ fun j : TokK => tok c j) : sProp 𝕄)
      ⊢ bigSep Finset.univ (G' X W) := by
  rw [bigSep_sep', bigSep_sep', bigSep_sep', ← bigSep_univ_prod (fun p : Dev nD × Kind => iprop(∃ κ : ℕ, cellInv ER (Rd X W) κ (cell p.1 p.2))),
    ← bigSep_univ_prod (fun p : Dev nD × Bool => iprop(∃ n : ℕ, inv n (pool (F := F) p.2 p.1))), toks_dealt]
  have hr : (bigSep Finset.univ fun c : Dev nD => bigSep Finset.univ fun q : Spot => at0 (F := F) c q)
      ⊢ bigSep Finset.univ fun c : Dev nD => iprop((bigSep Finset.univ fun q : Spot => at0 c q) ∗ bigSep Finset.univ fun q : Spot => reached ER (key (c, q)) 0) :=
    bigSep_mono fun c _ => reached_places (F := F) c
  iintro ⟨⟨HI, HN⟩, Hat, Htok⟩
  ihave HK := (BI.bigSep_exists_pi Finset.univ (fun (p : Dev nD × Kind) (κ : ℕ) => (cellInv ER (Rd X W) κ (cell p.1 p.2) : sProp 𝕄))) $$ HI
  icases HK with ⟨%K, #HI⟩
  ihave HN := (BI.bigSep_exists_pi Finset.univ (fun (p : Dev nD × Bool) (n : ℕ) => (inv n (pool (F := F) p.2 p.1) : sProp 𝕄))) $$ HN
  icases HN with ⟨%N, #HN⟩
  ihave Hat := hr $$ Hat
  ihave Hat := (Entails.of_eq (bigSep_sep' Finset.univ (fun c : Dev nD => bigSep Finset.univ fun q : Spot => at0 (F := F) c q)
    (fun c : Dev nD => bigSep Finset.univ fun q : Spot => (reached ER (key (c, q)) 0 : sProp 𝕄)))) $$ Hat
  icases Hat with ⟨Hat, Hr⟩
  ihave #Hr := (Entails.of_eq (bigSep_univ_prod (fun p : Dev nD × Spot => (reached ER (key p) 0 : sProp 𝕄))).symm) $$ Hr
  ihave H := (Entails.of_eq (bigSep_sep' Finset.univ (fun c : Dev nD => bigSep Finset.univ fun q : Spot => at0 (F := F) c q)
    (fun c : Dev nD => iprop(dealt (F := F) false c ∗ dealt true c))).symm) $$ [$Hat $Htok]
  iapply (with_persistent (R := iprop(knows X W K N ∗ bigSep Finset.univ fun p : Dev nD × Spot => (reached ER (key p) 0 : sProp 𝕄)))
    (Φ := fun c : Dev nD => iprop((bigSep Finset.univ fun q : Spot => at0 (F := F) c q) ∗ dealt (F := F) false c ∗ dealt true c)) (Ψ := G' X W) fun c _ => by
      iintro ⟨⟨#Hk, #Hr⟩, Hat, Ha, Hb⟩
      ihave Hp := (places_of c) $$ Hat
      icases Hp with ⟨Pa, Pb, Hbar⟩
      ihave Ka := (kit_of false c) $$ [$Pa $Ha]
      · iexact Hr
      ihave Kb := (kit_of true c) $$ [$Pb $Hb]
      · iexact Hr
      unfold G'
      isplitr
      · iexists K, N; iexact Hk
      iframe Ka Kb Hbar)
  isplitr
  · isplitr
    · unfold knows
      isplitr
      · iexact HI
      iexact HN
    iexact Hr
  iexact H

theorem glob : (bigSep Finset.univ fun c => iprop(Pipeline.ownSems0 (Ix := ℕ) (Name := ℕ) (U := UU) (Lvl := ℕ) (Val := Elt F) (τ := τ) osemOf c ∗ unscopedSems0 c ∗ G c) : sProp 𝕄)
    ⊢ |={Set.univ}=> bigSep Finset.univ (G' X W) := by
  have one (c : Dev nD) : iprop(Pipeline.ownSems0 (Ix := ℕ) (Name := ℕ) (U := UU) (Lvl := ℕ) (Val := Elt F) (τ := τ) osemOf c ∗ unscopedSems0 c ∗ G c)
      ⊢ (|={Set.univ}=> iprop(((bigSep Finset.univ fun k : Kind => iprop(∃ κ : ℕ, cellInv ER (Rd X W) κ (cell c k)))
          ∗ bigSep Finset.univ fun ρ : Bool => iprop(∃ n : ℕ, inv n (pool (F := F) ρ c)))
        ∗ (bigSep Finset.univ fun q : Spot => at0 c q) ∗ bigSep Finset.univ fun j : TokK => tok c j) : sProp 𝕄) := by
    unfold G
    iintro ⟨Hs, Hu, Hst, Hat, Htok⟩
    ihave Hv := (sems_of c) $$ [$Hs $Hu]
    imod (core_alloc X W c) $$ [$Hv $Hst] with H
    imodintro
    iframe H Hat Htok
  exact ((bigSep_mono fun c _ => one c).trans (bigSep_fupd _ _)).trans (BI.fupd_mono (deal_out X W))

end Cert.KernelIdeal.Ring
-- ==== Proof.Run.lean ====
module

public import proofs.«01_k».proof.Proof.Glob
public import proofs.«01_k».proof.Proof.Gen.KernelIdeal.Points
public import Idealize.ShloMosaic.Lib.Pipeline.CollectiveSegs
public import Idealize.ShloMosaic.Lib.Pipeline.KitQuiescent

@[expose] public section

noncomputable section

namespace Cert.KernelIdeal.Ring

open Cert.KernelIdeal Cert.KernelIdeal.Gen Cert.KernelIdeal.Steps
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Dev nD → S4096x512.Idx → Elt F .f32) (W : Dev nD → S512x2048.Idx → Elt F .f32)
variable (K : Dev nD × Kind → ℕ) (N : Dev nD × Bool → ℕ)

/-! ### The start -/

/-- What a device is owed in one direction. -/
def owedTo (ρ : Bool) (c : Dev nD) : sProp 𝕄 := iprop(four (fun i => creds ρ c i 0) ∗ credsC ρ c 0)
/-- The blocks of the result in one direction, at whatever they hold. -/
def raw (ρ : Bool) (c : Dev nD) : sProp 𝕄 := bigSep Finset.univ fun r : Fin 8 => anyO c ρ r

theorem start_of (ρ : Bool) (c : Dev nD) :
    iprop(kit ρ c ∗ owedTo ρ c ∗ (∃ Z, owns (c : Thread nD τ) (comm ρ) fullShare Z) ∗ raw ρ c) ⊢ start X W ρ c := by
  unfold kit owedTo
  iintro ⟨⟨Hq, Hb, ⟨Hs, Htk⟩, Hg, Hp, Hd⟩, ⟨Hc, Hcc⟩, ⟨%Z, Hm⟩, Ho⟩
  unfold start
  isplitl [Hq Hc]
  · ihave H := (Entails.of_eq (four_sep (fun i => iprop(winS ρ c i 0 ∗ winR ρ c i 0 ∗ toks ρ c i 0)) (fun i => creds (F := F) ρ c i 0))) $$ [$Hq $Hc]
    iapply (four_mono (Φ := fun i => iprop((winS ρ c i 0 ∗ winR ρ c i 0 ∗ toks ρ c i 0) ∗ creds (F := F) ρ c i 0)) (Ψ := stP ρ c) fun i => by
      unfold stP
      iintro ⟨⟨H1, H2, H3⟩, H4⟩
      iframe H1 H2 H3 H4) $$ H
  isplitl [Hm]; · iapply (comm_split c (comm ρ) Z) $$ Hm
  isplitl [Hb]; · iexact Hb
  isplitl [Hs Htk Hcc]
  · unfold toCome credsC
    isplitl [Hs]; · iexact Hs
    iapply (Entails.of_eq (bigSep_sep' (Finset.Ico 0 11) (fun k => (dutyTok ER (gave ρ (dst ρ c)) k 0 : sProp 𝕄)) (fun k => (cred (tallyAt (cell c (kC ρ)) (2 * k + 3) 1) : sProp 𝕄))).symm)
    iframe Htk Hcc
  isplitl [Hg]; · iexact Hg
  unfold outS
  isplitl [Hp]; · iexact Hp
  isplitl [Ho Hd]
  · unfold blank raw
    iapply (Entails.of_eq (bigSep_sep' (Finset.Ico 0 8) (fun j => (anyO c ρ (toF8 j) : sProp 𝕄)) (fun j => (dutyTok ER (cell c (kO ρ)) j 0 : sProp 𝕄))).symm)
    iframe Hd
    have e : (bigSep Finset.univ fun r : Fin 8 => (anyO c ρ r : sProp 𝕄)) = bigSep (Finset.Ico 0 8) fun j => anyO c ρ (toF8 j) := by
      rw [← big_fin 8 fun j => anyO c ρ (toF8 j)]
      exact bigSep_congr fun r _ => by rw [toF8_val]
    iapply (Entails.of_eq e) $$ Ho
  unfold filled
  rw [Finset.Ico_self, bigSep_empty]; iempintro

section Launch

open Idealize.ShloMosaic.Pipeline

variable (m : (ℓ : Loc nD τ sig) → Buf (Elt F) ℓ) (ρ : Dev nD → PrngReg)

/-- Memory as launched: `m`, the semaphores at zero. -/
def s₀ : MemSt nD τ sig (Elt F) := ⟨m, fun _ => 0, ρ⟩
/-- The operands of device `c`. -/
abbrev X₀ (c : Dev nD) : S4096x512.Idx → Elt F .f32 := (win0_0.blk (0 : Fin 1)).view.read (Elt F) (m ((c : Thread nD τ).loc main_arg0))
abbrev W₀ (c : Dev nD) : S512x2048.Idx → Elt F .f32 := (win0_1.blk (0 : Fin 1)).view.read (Elt F) (m ((c : Thread nD τ).loc main_arg1))

/-- The buffer that a direction passes round. -/
abbrev buf (c : Dev nD) (b : Ref sig .tc) : sProp 𝕄 := iprop(∃ f : Buf (Elt F) ((c : Thread nD τ).loc b), ((c : Thread nD τ).loc b) ↦{fullShare} f)

def begun (c : Dev nD) : sProp 𝕄 :=
  iprop(levAts L lv ∗ G' (X₀ m) (W₀ m) c ∗ cred (tallyAt (cell c kBar) 1 2) ∗ (owedTo false c ∗ owedTo true c) ∗ (raw false c ∗ raw true c))
def Φ₀ (c : Dev nD) : sProp 𝕄 := iprop(begun m c ∗ buf c cc0_scratch0 ∗ buf c cc0_scratch1)
def Φ₁ (c : Dev nD) : sProp 𝕄 := iprop(ended (X₀ m) (W₀ m) false c ∗ ended (X₀ m) (W₀ m) true c ∗ semVal (cell c kBar) 0)
/-- What a device owes at the launch. -/
def O₀ (c : Dev nD) : CellTallies nD τ sig ℕ := dues c owedAll

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => X₀ m c
    | ⟨1, _⟩ => W₀ m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ### The body, for the launch -/

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d)) ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (X₀ m c) ∗ stg c cc0_stg1_0 (W₀ m c))

theorem buf_owns (c : Dev nD) (b : Ref sig .tc) : buf (F := F) c b ⊢ iprop(∃ Z, owns (c : Thread nD τ) (Memref.whole b) fullShare Z) := by
  iintro ⟨%f, H⟩
  iexists f
  rw [owns_whole_eq]
  iexists f
  isplitr; · (ipureintro; rfl)
  iexact H

theorem pre_split (c : Dev nD) : bodyPre m ρ c ⊢ iprop(∃ K N, ctx (X₀ m) (W₀ m) K N ∗ opnd (X₀ m) (W₀ m) c ∗ start (X₀ m) (W₀ m) false c
    ∗ start (X₀ m) (W₀ m) true c ∗ pos c kBar 0 ∗ cred (tallyAt (cell c kBar) 1 2) ∗ owesL c owedAll) := by
  unfold bodyPre Φ₀ begun G'
  iintro ⟨⟨⟨#Hlev, ⟨⟨%K, %N, #Hk⟩, Ka, Kb, Hp⟩, Hcr, ⟨Oa, Ob⟩, Ra, Rb⟩, Ba, Bb⟩, Ho, ⟨%d0, %g0, %hg0, Hx⟩, ⟨%d1, %g1, %hg1, Hw⟩⟩
  have hx : g0 = X₀ m c := by rw [hg0]; unfold Dat.before; rw [if_pos (fetch0_0 t0_0)]; rfl
  have hw : g1 = W₀ m c := by rw [hg1]; unfold Dat.before; rw [if_pos (fetch0_1 t0_0)]; rfl
  subst hx hw
  unfold Dat.owesAt Pipeline.owesWithin
  icases Ho with ⟨%V, %hV, HO⟩
  ihave Ba := (buf_owns c cc0_scratch0) $$ Ba
  ihave Bb := (buf_owns c cc0_scratch1) $$ Bb
  ihave Sa := (start_of (X₀ m) (W₀ m) false c) $$ [$Ka $Oa $Ba $Ra]
  ihave Sb := (start_of (X₀ m) (W₀ m) true c) $$ [$Kb $Ob $Bb $Rb]
  iexists K, N
  isplitr
  · unfold ctx knows
    icases Hk with ⟨H1, H2⟩
    isplitr; · iexact Hlev
    isplitr; · iexact H1
    iexact H2
  isplitl [Hx Hw]; · unfold opnd; iframe Hx Hw
  iframe Sa Sb Hp Hcr
  unfold owesL
  iexists V
  iexact HO

theorem sound_body (c : Dev nD) : bodyPre m ρ c
    ⊢ wp frame (wpE (defs₀ (F := F)) 𝒱₀ (c : Thread nD τ) none) Set.univ
      (Steps.body (F := F) xM wM oM (comm false) (comm true) (ssem false) (rsem false) (ssem true) (rsem true) (osem false) (osem true)
            (csem false) (csem true)) (fun _ => bodyPost m ρ c) := by
  iintro H
  ihave H := (pre_split m ρ c) $$ H
  icases H with ⟨%K, %N, H⟩
  iapply wp_fupd
  iapply wp_wand_r
  isplitl
  · iapply (body_ends (X₀ m) (W₀ m) K N c) $$ H
  iintro %_ H
  imod H with ⟨Hx, Ea, Eb, Hb, Ho⟩
  imodintro
  unfold bodyPost Φ₁ opnd owesL Dat.owesAt Pipeline.owesWithin
  icases Ho with ⟨%V, HO⟩
  icases Hx with ⟨Hx, Hw⟩
  isplitl [Ea Eb Hb]; · iframe Ea Eb Hb
  isplitl [HO]
  · iexists V; isplitr; · (ipureintro; exact fun _ _ => Or.inl trivial)
    iexact HO
  isplitl [Hx]
  · iexists _; isplitr; · (ipureintro; rfl)
    iexact Hx
  iexists _; isplitr; · (ipureintro; rfl)
  iexact Hw

theorem fin_N (t : Fin cfg0.N) : t = t0_0 := fin_N0 t
theorem bigSep_W (Φ : Fin cfg0.W → sProp 𝕄) : bigSep Finset.univ Φ = iprop(Φ (0 : Fin 2) ∗ Φ (1 : Fin 2)) := bigSep_W0 Φ

set_option maxRecDepth 60000 in
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0__body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7 cc0_scratch8 cc0_scratch9) (fun _ => bodyPost m ρ c)
  rw [Steps.body_eq]
  exact sound_body m ρ c

/-! ### The launch -/

theorem ownSemFacts : Pipeline.OwnSemFacts cfg0.spec osemOf := by decide +kernel
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf spots allToks)

theorem begun_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (X₀ m) (W₀ m) c)
      ⊢ |={Set.univ}=> iprop(begun m c ∗ emp) := by
  rw [Pipeline.unscopedRestP_none, unscopedRest0_eq]
  iintro ⟨Ho, Hlev, Hcr, -, HG⟩
  ihave Hc := (show (Pipeline.launchCred O₀ c : sProp 𝕄) ⊢ _ from all_earned (F := F) c) $$ Hcr
  icases Hc with ⟨H1, Ha, Hb⟩
  ihave Ho := (show ((((c : Thread nD τ).loc main_v1) ↦{fullShare} m ((c : Thread nD τ).loc main_v1) : sProp 𝕄))
      ⊢ owns (c : Thread nD τ) (Memref.whole main_v1) fullShare (m ((c : Thread nD τ).loc main_v1)) from by
    rw [owns_whole_eq]; iintro H; iexists _; isplitr; · (ipureintro; rfl)
    iexact H) $$ Ho
  ihave Ho := (out_split c _) $$ Ho
  ihave Ho := (Entails.of_eq ((bigSep_univ_prod (fun p : Bool × Fin 8 => (anyO c p.1 p.2 : sProp 𝕄))).trans (bigBool _))) $$ Ho
  imodintro
  unfold begun owedTo raw
  isplitl
  · icases Ho with ⟨Oa, Ob⟩
    iframe Hlev HG H1 Ha Hb
    isplitl [Oa]; · iexact Oa
    iexact Ob
  · iempintro

theorem phi0_intro (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Ha, Hb⟩
  iframe Hs Ha Hb

/-- What a device keeps of the end: the meeting semaphore and the result. -/
def final (c : Dev nD) : sProp 𝕄 := iprop(unscopedSems0 c ∗ filled (X₀ m) (W₀ m) false c 8 ∗ filled (X₀ m) (W₀ m) true c 8)

theorem owns_buf (c : Dev nD) (b : Ref sig .tc) : iprop(∃ Z, owns (c : Thread nD τ) (Memref.whole b) fullShare Z) ⊢ buf (F := F) c b := by
  iintro ⟨%Z, H⟩
  ihave H := (Entails.of_eq (owns_whole_eq c b Z)) $$ H
  icases H with ⟨%f, -, H⟩
  iexists f
  iexact H

theorem phi1_exit (c : Dev nD) :
    (dats m ρ 0 c).Φ (Fin.last cfg0.N) ⊢ iprop(final m c ∗ Pipeline.ownSems0 osemOf c ∗ Pipeline.scopedRest cfg0.spec c) := by
  rw [show (dats m ρ 0 c).Φ (Fin.last cfg0.N) = Φ₁ m c from rfl, scopedRest0_eq]
  unfold Φ₁ final ended
  rw [unscoped_eq]
  iintro ⟨⟨Za, Ca, Oa, Ma, Fa⟩, ⟨Zb, Cb, Ob, Mb, Fb⟩, Hb⟩
  isplitl [Hb Fa Fb]; · iframe Hb Fa Fb
  isplitl [Za Ca Oa Zb Cb Ob]
  · iapply (own_zero c)
    iframe Za Ca Oa Zb Cb Ob
  isplitl [Ma]
  · iapply (owns_buf c cc0_scratch0) $$ Ma
  iapply (owns_buf c cc0_scratch1) $$ Mb

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 owedAll (by decide) fun j hj => by
        rcases List.mem_cons.mp hj with rfl | hj
        · exact ⟨by decide, by decide⟩
        rcases List.mem_cons.mp hj with rfl | hj
        · exact ⟨by decide, by decide⟩
        exact ⟨Nat.lt_of_le_of_lt (Nat.zero_le 1) (above_seed j hj).1, (above_seed j hj).2⟩
    · exact mayWait c _ 0 [] (by decide) fun j hj => absurd hj List.not_mem_nil

/-! ### Reading the result -/

theorem done_read (b : Bool) (c : Dev nD) (r : Fin 8) (s' : Phys nD τ sig (Elt F)) :
    iprop(done (X₀ m) (W₀ m) b c r ∗ SI s')
      ⊢ iprop(⌜(outM b c r).view.read (Elt F) (s'.mem.mem ((outM b c r).view.loc (c : Thread nD τ))) = joinQ (Y (X₀ m) (W₀ m) b (r.val + 7) c)⌝ ∗ SI s') := by
  unfold done owns
  iintro ⟨⟨%f, %hf, H⟩, HSI⟩
  icombine HSI H gives %h
  isplitr
  · ipureintro
    rw [← hf]
    exact View.read_congr h
  iexact HSI

theorem filled_read (b : Bool) (c : Dev nD) (n : ℕ) (s' : Phys nD τ sig (Elt F)) :
    iprop(filled (X₀ m) (W₀ m) b c n ∗ SI s')
      ⊢ iprop(⌜∀ r < n, (outM b c (toF8 r)).view.read (Elt F) (s'.mem.mem ((outM b c (toF8 r)).view.loc (c : Thread nD τ))) = joinQ (Y (X₀ m) (W₀ m) b ((toF8 r).val + 7) c)⌝ ∗ SI s') := by
  induction n with
  | zero =>
    iintro ⟨-, HSI⟩
    isplitr; · (ipureintro; exact fun r hr => absurd hr (Nat.not_lt_zero r))
    iexact HSI
  | succ n ih =>
    unfold filled at ih ⊢
    rw [big_to (Nat.zero_le n)]
    iintro ⟨⟨H1, H⟩, HSI⟩
    ihave H := ih $$ [$H $HSI]
    icases H with ⟨%hr, HSI⟩
    ihave H := (done_read m b c (toF8 n) s') $$ [$H1 $HSI]
    icases H with ⟨%h1, HSI⟩
    isplitr
    · ipureintro
      intro r hr'
      rcases Nat.lt_succ_iff_lt_or_eq.mp hr' with h | rfl
      · exact hr r h
      · exact h1
    iexact HSI

/-- The result of device `c`, block by block. -/
def Result (mem : (ℓ : Loc nD τ sig) → Buf (Elt F) ℓ) (c : Dev nD) : Prop :=
  ∀ (b : Bool) (r : Fin 8), (outM b c r).view.read (Elt F) (mem ((outM b c r).view.loc (c : Thread nD τ))) = joinQ (Y (X₀ m) (W₀ m) b (r.val + 7) c)

theorem final_read (c : Dev nD) (s' : Phys nD τ sig (Elt F)) :
    iprop(final m c ∗ emp ∗ SI s') ⊢ |={Set.univ}=> iprop(⌜Result m s'.mem.mem c
      ∧ ∀ sm : SemLoc sig, sm.isScoped .tc = false → s'.mem.sem ((c : Thread nD τ), sm) = 0⌝ ∗ SI s') := by
  unfold final
  iintro ⟨⟨Hu, Ha, Hb⟩, -, HSI⟩
  ihave H := (filled_read m false c 8 s') $$ [$Ha $HSI]
  icases H with ⟨%ha, HSI⟩
  ihave H := (filled_read m true c 8 s') $$ [$Hb $HSI]
  icases H with ⟨%hb, HSI⟩
  imod (Pipeline.unscopedSems0_read (X := unscopedSems0 c) (c := c) fupd_intro s') $$ [$Hu $HSI] with ⟨%hs, HSI⟩
  imodintro
  isplitr
  · ipureintro
    refine ⟨fun b r => ?_, hs⟩
    cases b
    · have := ha r.val r.isLt; rwa [toF8_val] at this
    · have := hb r.val r.isLt; rwa [toF8_val] at this
  iexact HSI

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  (∀ c : Dev nD, ∀ w : Fin cfg0.W, r.2.mem ((cfg0.win w).arr.view.loc (c : Thread nD τ)) = finalA m ρ c w) ∧ ∀ c : Dev nD, Result m r.2.mem c

set_option maxRecDepth 60000 in
/-- Every run ends, with the operands as they were, the result at its blocks and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl) (hbody := body_obligation m ρ) (hne := block_pos0) (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := waits m ρ) (G := G) (G' := G' (X₀ m) (W₀ m)) (u₀ := u₀)
    (hu₀ := by
      unfold u₀
      iintro Hu
      ihave H := (ownU_pair _ _) $$ Hu
      icases H with ⟨HP, HX⟩
      imod (fund_ring (F := F)) $$ HX with HG
      imodintro
      isplitl [HP]; · iexact HP
      iexact HG)
    (hglob := glob (X₀ m) (W₀ m)) (hA := fun _ _ => rfl) (hpf := fun _ k => k.elim0)
    (X := begun m) (Y := final m) (Z := fun _ => iprop(emp))
    (hX := begun_intro m ρ) (hin := phi0_intro m ρ) (hout := phi1_exit m ρ)
    (QY := fun c s => Result m s.mem c ∧ ∀ sm : SemLoc sig, sm.isScoped .tc = false → s.sem ((c : Thread nD τ), sm) = 0)
    (hY := fun c s' => final_read m c s')
    (hQ := fun _ h hs => ⟨⟨fun c w => (h c).1 w, fun c => (h c).2.2.1⟩, sem_eq_zero hs fun c => (h c).2.2.2⟩)

theorem finalA_0 (c : Dev nD) : finalA m ρ c (0 : Fin 2) = m ((c : Thread nD τ).loc main_arg0) := (dats m ρ 0 c).arrAt_in (0 : Fin 2) rfl _
theorem finalA_1 (c : Dev nD) : finalA m ρ c (1 : Fin 2) = m ((c : Thread nD τ).loc main_arg1) := (dats m ρ 0 c).arrAt_in (1 : Fin 2) rfl _

end Launch

end Cert.KernelIdeal.Ring
-- ==== Proof.Value.lean ====
module

public import proofs.«01_k».proof.Proof.Run
public import Idealize.ShloMosaic.Lib.Pointwise
public import Idealize.ShloMosaic.Lib.Layout
public import Idealize.ShloMosaic.PureOps.Ideal

/- What the quarters hold over the extended reals: after seven steps, the gate of the sum over all devices. -/

@[expose] public section

noncomputable section

namespace Cert.KernelIdeal.Ring

open Cert.KernelIdeal Cert.KernelIdeal.Gen Cert.KernelIdeal.Steps
open Idealize.ShloMosaic
open Idealize.ShloMosaic.TcCoe

/-! ### One device's products, at an element -/

theorem seed_dot (x : Vec Ideal S128x512 .f32) (w : Vec Ideal S512x1024 .f32) (a : Fin 128) (b : Fin 1024) :
    shapeCast S128x1024 (seedVal x w) shapeCasts_S1x128x1024_S128x1024 (ix2 a b) = ∑ k : Fin 512, x (ix2 a k) * w (ix2 k b) := by
  pointwise [seedVal, k0_pay1]

theorem part_dot (x : Vec Ideal S512x512 .f32) (w : Vec Ideal S512x1024 .f32) (a : Fin 512) (b : Fin 1024) :
    partVal x w (ix2 a b) = ∑ k : Fin 512, x (ix2 a k) * w (ix2 k b) := by
  pointwise [partVal, k0_pay11]

/-- The gate: `v / (1 + exp (-v))`. -/
def gate (v : EReal) : EReal := Ideal.div v (1 + Ideal.exp (-v))

theorem gate_den (v : EReal) : 1 + Ideal.exp v ≠ 0 := by
  have h : (0 : EReal) ≤ Ideal.exp v := by
    induction v using EReal.rec with
    | bot => exact le_rfl
    | top => exact le_top
    | coe r => exact EReal.coe_nonneg.mpr (Real.exp_pos r).le
  have h1 : (1 : EReal) ≤ 1 + Ideal.exp v := le_add_of_nonneg_right h
  exact ne_of_gt (lt_of_lt_of_le zero_lt_one h1)

theorem gate_eq (v : EReal) : v * Ideal.div 1 (1 + Ideal.exp (0 - v)) = gate v := by
  have h := gate_den (-v)
  rw [zero_sub, gate, Ideal.div, Ideal.div, if_neg h, if_neg h, one_mul]

theorem gateVal_apply (v : FVec Ideal S128x1024 .f32) (a : Fin 128) (b : Fin 1024) :
    gateVal v (ix2 a b) = gate (v (ix2 a b)) := by
  rw [← gate_eq]
  pointwise [gateVal]

/-- A step: what arrived plus the device's own part, through the gate at the seventh. -/
theorem acc_apply (t : ℕ) (i : Fin 4) (p : FVec Ideal S512x1024 .f32) (y : S128x1024.Idx → Elt Ideal .f32) (a : Fin 128) (b : Fin 1024) :
    shapeCast S128x1024 (accVal t i p (shapeCast S1x128x1024 y shapeCasts_S128x1024_S1x128x1024)) shapeCasts_S1x128x1024_S128x1024 (ix2 a b)
      = (if t = 6 then gate else id) (y (ix2 a b) + p (ix2 (⟨128 * i.val + a.val, by omega⟩ : Fin 512) b)) := by
  have hs : sumVal i p (shapeCast S1x128x1024 y shapeCasts_S128x1024_S1x128x1024) (ix2 a b)
      = y (ix2 a b) + p (ix2 (⟨128 * i.val + a.val, by omega⟩ : Fin 512) b) := by
    pointwise [sumVal]
  unfold accVal
  split
  · rw [← hs, ← gateVal_apply]
    pointwise
  · show _ = id _
    rw [← hs, id]
    pointwise

/-! ### The quarters -/

/-- The chunk that device `c` holds at time `t`. -/
def ch : Bool → ℕ → Dev nD → Fin 8
  | false, t, c => ⟨(c.val + 7 * t) % 8, Nat.mod_lt _ (by decide)⟩ | true, t, c => ⟨(c.val + t) % 8, Nat.mod_lt _ (by decide)⟩
theorem ch_succ (ρ : Bool) (t : ℕ) (c : Dev nD) : ch ρ (t + 1) c = ch ρ t (src ρ c) := by
  have hc : c.val < 8 := c.isLt
  cases ρ
  · refine Fin.ext ?_
    show (c.val + 7 * (t + 1)) % 8 = ((left c).val + 7 * t) % 8
    rw [left_val]; omega
  · refine Fin.ext ?_
    show (c.val + (t + 1)) % 8 = ((right c).val + t) % 8
    rw [right_val]; omega

/-- The row of the whole arrays that is row `a` of quarter `i` of chunk `q`, and the column that a direction's column `b` is. -/
def rowOf (q : Fin 8) (i : Fin 4) (a : Fin 128) : Fin 4096 := ⟨512 * q.val + 128 * i.val + a.val, by omega⟩
def colOf : Bool → Fin 1024 → Fin 2048
  | false, b => ⟨b.val, by omega⟩ | true, b => ⟨1024 + b.val, by omega⟩

section Sums
variable (X : Dev nD → S4096x512.Idx → Elt Ideal .f32) (W : Dev nD → S512x2048.Idx → Elt Ideal .f32)

/-- Device `c`'s part of element `(R, C)` of the product. -/
def own (c : Dev nD) (R : Fin 4096) (C : Fin 2048) : EReal := ∑ k : Fin 512, X c (ix2 R k) * W c (ix2 k C)

theorem x1_apply (c : Dev nD) (i : Fin 4) (a : Fin 128) (k : Fin 512) :
    x1 X c i (ix2 a k) = X c (ix2 (rowOf (ch false 0 c) i a) k) := by
  have hc : c.val < 8 := c.isLt
  refine congrArg (X c) (funext fun e => Fin.ext ?_)
  show k0_off1 c (BitVec.ofNat 32 (128 * i.val)) e + 1 * ((ix2 a k : (⟨2, ![128, 512]⟩ : Shape).Idx) e).val = _
  rw [k0_off1_eq]
  fin_cases e
  · show 512 * c.val + 128 * i.val + 1 * a.val = 512 * ((c.val + 7 * 0) % 8) + 128 * i.val + a.val
    omega
  · show 0 + 1 * k.val = k.val
    omega

theorem xP_apply (ρ : Bool) (c : Dev nD) (r : Fin 7) (i : Fin 4) (a : Fin 128) (k : Fin 512) :
    xP X ρ c r (ix2 (⟨128 * i.val + a.val, by omega⟩ : Fin 512) k) = X c (ix2 (rowOf (ch ρ (r.val + 1) c) i a) k) := by
  have hc : c.val < 8 := c.isLt
  cases ρ
  · refine congrArg (X c) (funext fun e => Fin.ext ?_)
    show k0_off2 c (BitVec.ofNat 32 (1 + r.val)) e + 1 * ((ix2 (⟨128 * i.val + a.val, by omega⟩ : Fin 512) k : (⟨2, ![512, 512]⟩ : Shape).Idx) e).val = _
    rw [k0_off2_eq]
    fin_cases e
    · show 512 * (((c.val + 7) - r.val) % 8) + 1 * (128 * i.val + a.val) = 512 * ((c.val + 7 * (r.val + 1)) % 8) + 128 * i.val + a.val
      omega
    · show 0 + 1 * k.val = k.val
      omega
  · refine congrArg (X c) (funext fun e => Fin.ext ?_)
    show k0_off3 c (BitVec.ofNat 32 r.val) e + 1 * ((ix2 (⟨128 * i.val + a.val, by omega⟩ : Fin 512) k : (⟨2, ![512, 512]⟩ : Shape).Idx) e).val = _
    rw [k0_off3_eq]
    fin_cases e
    · show 512 * ((c.val + r.val + 1) % 8) + 1 * (128 * i.val + a.val) = 512 * ((c.val + (r.val + 1)) % 8) + 128 * i.val + a.val
      omega
    · show 0 + 1 * k.val = k.val
      omega

theorem wP_apply (ρ : Bool) (c : Dev nD) (k : Fin 512) (b : Fin 1024) : wP W ρ c (ix2 k b) = W c (ix2 k (colOf ρ b)) := by
  cases ρ
  · refine congrArg (W c) (funext fun e => Fin.ext ?_)
    fin_cases e
    · show 0 + 1 * k.val = k.val
      omega
    · show 0 + 1 * b.val = b.val
      omega
  · refine congrArg (W c) (funext fun e => Fin.ext ?_)
    fin_cases e
    · show 0 + 1 * k.val = k.val
      omega
    · show 1024 + 1 * b.val = 1024 + b.val
      omega

theorem ch_zero (ρ : Bool) (c : Dev nD) : ch ρ 0 c = ch false 0 c := by
  cases ρ
  · rfl
  · exact Fin.ext (by show (c.val + 0) % 8 = (c.val + 7 * 0) % 8; omega)

theorem seed_own (ρ : Bool) (c : Dev nD) (i : Fin 4) (a : Fin 128) (b : Fin 1024) :
    Y X W ρ 0 c i (ix2 a b) = own X W c (rowOf (ch ρ 0 c) i a) (colOf ρ b) := by
  rw [Y, seed_dot, ch_zero]
  exact Finset.sum_congr rfl fun k _ => by rw [x1_apply, wP_apply]

theorem part_own (ρ : Bool) (c : Dev nD) (r : Fin 7) (i : Fin 4) (a : Fin 128) (b : Fin 1024) :
    part X W ρ c r (ix2 (⟨128 * i.val + a.val, by omega⟩ : Fin 512) b) = own X W c (rowOf (ch ρ (r.val + 1) c) i a) (colOf ρ b) := by
  rw [part, part_dot]
  exact Finset.sum_congr rfl fun k _ => by rw [xP_apply, wP_apply]

/-- The parts of the devices that a chunk has passed by time `t`, the last at `c`. -/
def passed (ρ : Bool) : ℕ → Dev nD → Fin 4096 → Fin 2048 → EReal
  | 0, c, R, C => own X W c R C
  | t + 1, c, R, C => passed ρ t (src ρ c) R C + own X W c R C

theorem Y_passed (ρ : Bool) (t : ℕ) (ht : t ≤ 6) (c : Dev nD) (i : Fin 4) (a : Fin 128) (b : Fin 1024) :
    Y X W ρ t c i (ix2 a b) = passed X W ρ t c (rowOf (ch ρ t c) i a) (colOf ρ b) := by
  induction t generalizing c with
  | zero => exact seed_own X W ρ c i a b
  | succ t ih =>
    rw [Y, dif_pos (by omega), acc_apply, if_neg (by omega), id, ih (by omega), part_own, passed, ← ch_succ]

theorem Y_seven (ρ : Bool) (c : Dev nD) (i : Fin 4) (a : Fin 128) (b : Fin 1024) :
    Y X W ρ 7 c i (ix2 a b) = gate (passed X W ρ 7 c (rowOf (ch ρ 7 c) i a) (colOf ρ b)) := by
  show Y X W ρ (6 + 1) c i (ix2 a b) = _
  rw [Y, dif_pos (by omega), acc_apply, if_pos rfl, Y_passed X W ρ 6 le_rfl, part_own, ← ch_succ]
  rfl

/-- Once round is every device once. -/
theorem passed_all (ρ : Bool) (c : Dev nD) (R : Fin 4096) (C : Fin 2048) : passed X W ρ 7 c R C = ∑ d : Dev nD, own X W d R C := by
  have hb : Function.Bijective (fun j : Fin 8 => (src ρ)^[j.val] c) := by
    revert ρ c; decide +kernel
  have hp (t : ℕ) : ∀ c, passed X W ρ t c R C = ∑ j ∈ Finset.range (t + 1), own X W ((src ρ)^[j] c) R C := by
    induction t with
    | zero => intro c; simp [passed]
    | succ t ih =>
      intro c
      rw [passed, ih, Finset.sum_range_succ' _ (t + 1)]
      rfl
  rw [hp, ← Fin.sum_univ_eq_sum_range (fun j => own X W ((src ρ)^[j] c) R C) 8]
  exact hb.sum_comp (fun d => own X W d R C)

/-- From the eighth time on every device that a chunk reaches holds the gate of the sum over all devices. -/
theorem Y_final (ρ : Bool) (r : ℕ) (c : Dev nD) (i : Fin 4) (a : Fin 128) (b : Fin 1024) :
    Y X W ρ (r + 7) c i (ix2 a b) = gate (∑ d : Dev nD, own X W d (rowOf (ch ρ (r + 7) c) i a) (colOf ρ b)) := by
  induction r generalizing c with
  | zero => rw [← passed_all X W ρ c]; exact Y_seven X W ρ c i a b
  | succ r ih =>
    have h : r + 1 + 7 = (r + 7) + 1 := by omega
    rw [h, Y, dif_neg (by omega), ih, ← ch_succ]

end Sums

end Cert.KernelIdeal.Ring

end
-- ==== Proof.Whole.lean ====
module

public import proofs.«01_k».proof.Proof.Value
public import proofs.«01_k».proof.Proof.Gen.ReferenceIdeal.Run
public import proofs.«01_k».proof.Proof.Gen.ClippedReferenceIdeal.Run
public import proofs.«01_k».proof.On_within_clip
public import Idealize.ShloMosaic.Lib.Pointwise
public import Idealize.ShloMosaic.Lib.Layout
public import Idealize.ShloMosaic.PureOps.Ideal

/- The sixteen blocks put together, and the reference's value: both are the gate of the whole product. -/

@[expose] public section

noncomputable section

namespace Cert.KernelIdeal.Ring

open Cert.KernelIdeal Cert.KernelIdeal.Gen Cert.KernelIdeal.Steps
open Idealize.ShloMosaic
open Idealize.ShloMosaic.TcCoe

/-- The gate of the product of the whole arrays. -/
def full (A : (⟨2, ![4096, 4096]⟩ : Shape).Idx → EReal) (B : (⟨2, ![4096, 2048]⟩ : Shape).Idx → EReal) :
    (⟨2, ![4096, 2048]⟩ : Shape).Idx → EReal :=
  fun x => gate (∑ k : Fin 4096, A (ix2 (x 0) k) * B (ix2 k (x 1)))

/-- The devices' parts add up to the product of the whole arrays. -/
theorem sum_own (X : Dev nD → S4096x512.Idx → Elt Ideal .f32) (W : Dev nD → S512x2048.Idx → Elt Ideal .f32)
    (A : (⟨2, ![4096, 4096]⟩ : Shape).Idx → EReal) (B : (⟨2, ![4096, 2048]⟩ : Shape).Idx → EReal)
    (hX : ∀ c : Dev nD, X c = Layout.block ⟨2, ![4096, 512]⟩ ⟨2, ![4096, 4096]⟩ 1 8 c A)
    (hW : ∀ c : Dev nD, W c = Layout.block ⟨2, ![512, 2048]⟩ ⟨2, ![4096, 2048]⟩ 0 8 c B) (R : Fin 4096) (C : Fin 2048) :
    ∑ d : Dev nD, own X W d R C = ∑ k : Fin 4096, A (ix2 R k) * B (ix2 k C) := by
  have h (d : Fin 8) : own X W d R C
      = ∑ k : Fin 512, A (ix2 R (finProdFinEquiv (d, k) : Fin (8 * 512))) * B (ix2 (finProdFinEquiv (d, k) : Fin (8 * 512)) C) := by
    refine Finset.sum_congr rfl fun k _ => ?_
    rw [hX, hW, Layout.block_apply, Layout.block_apply]
    refine congrArg₂ (fun i j => A i * B j) ?_ ?_
    · refine funext fun e => Fin.ext ?_
      rw [Layout.Tiles.idx_val]
      fin_cases e
      · rfl
      · show d.val * 512 + k.val = k.val + 512 * d.val
        omega
    · refine funext fun e => Fin.ext ?_
      rw [Layout.Tiles.idx_val]
      fin_cases e
      · show d.val * 512 + k.val = k.val + 512 * d.val
        omega
      · rfl
  refine (Finset.sum_congr rfl fun d _ => h d).trans ?_
  rw [← Fintype.sum_prod_type' (fun (d : Fin 8) (k : Fin 512) =>
    A (ix2 R (finProdFinEquiv (d, k) : Fin (8 * 512))) * B (ix2 (finProdFinEquiv (d, k) : Fin (8 * 512)) C))]
  exact Equiv.sum_comp finProdFinEquiv (fun K : Fin (8 * 512) => A (ix2 R K) * B (ix2 K C))

/-- Where a block's element lies in the result. -/
def outAt : Bool → Dev nD → Fin 8 → S512x1024.Idx → S4096x2048.Idx
  | false, c, r => (outRect false c r).emb | true, c, r => (outRect true c r).emb

theorem out_at (b : Bool) (c : Dev nD) (r : Fin 8) (i : Fin 4) (x : Fin 128) (y : Fin 1024) :
    outAt b c r ((subRect i).emb (ix2 x y)) = ix2 (rowOf (ch b (r.val + 7) c) i x) (colOf b y) := by
  have hc : c.val < 8 := c.isLt
  have hr : r.val < 8 := r.isLt
  cases b
  · refine funext fun e => Fin.ext ?_
    show k0_off4 c (k0_off4_at r) e + 1 * ((![128 * i.val, 0] : Fin 2 → ℕ) e + 1 * ((ix2 x y : (⟨2, ![128, 1024]⟩ : Shape).Idx) e).val) = _
    rw [off4_eq]
    fin_cases e
    · show 512 * ((c.val + 9 - r.val) % 8) + 1 * (128 * i.val + 1 * x.val) = 512 * ((c.val + 7 * (r.val + 7)) % 8) + 128 * i.val + x.val
      omega
    · show 0 + 1 * (0 + 1 * y.val) = y.val
      omega
  · refine funext fun e => Fin.ext ?_
    show k0_off5 c (k0_off5_at r) e + 1 * ((![128 * i.val, 0] : Fin 2 → ℕ) e + 1 * ((ix2 x y : (⟨2, ![128, 1024]⟩ : Shape).Idx) e).val) = _
    rw [off5_eq]
    fin_cases e
    · show 512 * ((c.val + 7 + r.val) % 8) + 1 * (128 * i.val + 1 * x.val) = 512 * ((c.val + (r.val + 7)) % 8) + 128 * i.val + x.val
      omega
    · show 1024 + 1 * (0 + 1 * y.val) = 1024 + y.val
      omega

/-- A result whose blocks are as the run leaves them is the gate of the sum of the devices' parts. -/
theorem result_eq (m : (ℓ : Loc nD τ sig) → Buf (Elt Ideal) ℓ) (mem : (ℓ : Loc nD τ sig) → Buf (Elt Ideal) ℓ) (c : Dev nD)
    (h : Result m mem c) (z : S4096x2048.Idx) :
    mem ((c.tc : Thread nD τ).loc main_v1) z = gate (∑ d : Dev nD, own (X₀ m) (W₀ m) d (z 0) (z 1)) := by
  obtain ⟨⟨b, r⟩, -, hz⟩ := Finset.mem_biUnion.mp (out_cov c ▸ Finset.mem_univ z)
  rw [← Rect.map_emb_univ, Finset.mem_map] at hz
  obtain ⟨w, rfl⟩ : ∃ w, outAt b c r w = z := by
    obtain ⟨w, -, hw⟩ := hz
    cases b <;> exact ⟨w, hw⟩
  obtain ⟨⟨i, w⟩, rfl⟩ := sub_cover w
  have e := congrFun (h b r) ((subRect i).emb w)
  rw [joinQ_emb] at e
  obtain ⟨x, y, rfl⟩ : ∃ (x : Fin 128) (y : Fin 1024), w = ix2 x y := ⟨w 0, w 1, eq_ix2 w⟩
  rw [Y_final] at e
  have hat := out_at b c r i x y
  have e' : mem ((c.tc : Thread nD τ).loc main_v1) (outAt b c r ((subRect i).emb (ix2 x y)))
      = gate (∑ d : Dev nD, own (X₀ m) (W₀ m) d (rowOf (ch b (r.val + 7) c) i x) (colOf b y)) := by
    cases b <;> exact e
  show mem ((c.tc : Thread nD τ).loc main_v1) (outAt b c r ((subRect i).emb (ix2 x y))) = _
  rw [e', hat]
  rfl

/-- The operands, as the whole staged arrays. -/
theorem X₀_eq (m : (ℓ : Loc nD τ sig) → Buf (Elt Ideal) ℓ) (c : Dev nD) : X₀ m c = m ((c.tc : Thread nD τ).loc main_arg0) := by
  refine funext fun j => ?_
  refine congrArg (m ((c.tc : Thread nD τ).loc main_arg0)) (funext fun e => Fin.ext ?_)
  fin_cases e
  · show 0 + 1 * (j 0).val = (j 0).val
    omega
  · show 0 + 1 * (j 1).val = (j 1).val
    omega
theorem W₀_eq (m : (ℓ : Loc nD τ sig) → Buf (Elt Ideal) ℓ) (c : Dev nD) : W₀ m c = m ((c.tc : Thread nD τ).loc main_arg1) := by
  refine funext fun j => ?_
  refine congrArg (m ((c.tc : Thread nD τ).loc main_arg1)) (funext fun e => Fin.ext ?_)
  fin_cases e
  · show 0 + 1 * (j 0).val = (j 0).val
    omega
  · show 0 + 1 * (j 1).val = (j 1).val
    omega

end Cert.KernelIdeal.Ring

namespace Cert.ReferenceIdeal.Value

open Cert.ReferenceIdeal Cert.ReferenceIdeal.Gen
open Idealize.ShloMosaic

/-- The reference's operations are the gate of the product of the whole arrays. -/
theorem ref_full (A : FVec Ideal S4096x4096 .f32) (B : FVec Ideal S4096x2048 .f32) :
    Host.divf (Host.dotGeneral dot_S4096x4096_S4096x2048_S4096x2048_1_0_0_1_n_n none A B)
      (addf (broadcastInDim S4096x2048 ![] bcast_S_S4096x2048 (constant S_ .f32 0x3F800000#32))
        (Host.exp (Host.negf (Host.dotGeneral dot_S4096x4096_S4096x2048_S4096x2048_1_0_0_1_n_n none A B))))
      = Cert.KernelIdeal.Ring.full A B := by
  funext j
  pointwise [Cert.KernelIdeal.Ring.full, Cert.KernelIdeal.Ring.gate]

end Cert.ReferenceIdeal.Value

namespace Cert.On_within_clip

open Idealize.ShloMosaic

/-- The shape relations of the predicate's operations. -/
instance facts : Facts where
  bcast_S_S4096x2048 := by decide
  dot_S4096x4096_S4096x2048_S4096x2048_1_0_0_1_n_n_wf := by decide

/-- The predicate holds where the product lies between the two bounds. -/
theorem fn_apply (A : FVec Ideal S4096x4096 .f32) (B : FVec Ideal S4096x2048 .f32) (r : Fin 4096) (l : Fin 2048)
    (h : fn (F := Ideal) A B (ix2 r l) = 1#1) :
    Ideal.ofBits .f32 0xC2700000#32 ≤ ∑ k : Fin 4096, A (ix2 r k) * B (ix2 k l)
      ∧ ∑ k : Fin 4096, A (ix2 r k) * B (ix2 k l) ≤ Ideal.ofBits .f32 0x42700000#32 := by
  revert h
  pointwise [fn]
  intro h
  by_cases h1 : Ideal.ofBits .f32 0xC2700000#32 ≤ ∑ k : Fin 4096, A (ix2 r k) * B (ix2 k l)
  · by_cases h2 : ∑ k : Fin 4096, A (ix2 r k) * B (ix2 k l) ≤ Ideal.ofBits .f32 0x42700000#32
    · exact ⟨h1, h2⟩
    · rw [decide_eq_true h1, decide_eq_false h2] at h
      exact absurd h (by decide)
  · rw [decide_eq_false h1] at h
    by_cases h2 : ∑ k : Fin 4096, A (ix2 r k) * B (ix2 k l) ≤ Ideal.ofBits .f32 0x42700000#32
    · rw [decide_eq_true h2] at h
      exact absurd h (by decide)
    · rw [decide_eq_false h2] at h
      exact absurd h (by decide)

end Cert.On_within_clip

namespace Cert.ClippedReferenceIdeal.Value

open Cert.ClippedReferenceIdeal Cert.ClippedReferenceIdeal.Gen
open Idealize.ShloMosaic

/-- Where the product lies between the bounds, the clip is the identity and the operations are the gate of the product. -/
theorem ref_full (A : FVec Ideal S4096x4096 .f32) (B : FVec Ideal S4096x2048 .f32) (r : Fin 4096) (l : Fin 2048)
    (h : Cert.On_within_clip.fn (F := Ideal) A B (ix2 r l) = 1#1) :
    Host.divf (Host.dotGeneral dot_S4096x4096_S4096x2048_S4096x2048_1_0_0_1_n_n none A B)
      (addf (broadcastInDim S4096x2048 ![] bcast_S_S4096x2048 (constant S_ .f32 0x3F800000#32))
        (Host.exp (Host.negf (minimumf (broadcastInDim S4096x2048 ![] bcast_S_S4096x2048 (id (constant S_ .f32 0x42700000#32)))
          (maximumf (broadcastInDim S4096x2048 ![] bcast_S_S4096x2048 (id (constant S_ .f32 0xC2700000#32)))
            (Host.dotGeneral dot_S4096x4096_S4096x2048_S4096x2048_1_0_0_1_n_n none A B)))))) (ix2 r l)
      = Cert.KernelIdeal.Ring.full A B (ix2 r l) := by
  obtain ⟨h1, h2⟩ := Cert.On_within_clip.fn_apply A B r l h
  pointwise [Cert.KernelIdeal.Ring.full, Cert.KernelIdeal.Ring.gate]
  refine congrArg (fun v => Ideal.div _ (1 + Ideal.exp (-v))) ?_
  exact (congrArg (min _) (max_eq_right h1)).trans (min_eq_right h2)

end Cert.ClippedReferenceIdeal.Value

end
-- ==== Proof.lean ====
/- The claims about the fused product on eight devices, assembled from the run of the kernel
   (Proof/Run.lean, once for any float values) and the run of the reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ClippedReferenceIdeal
public import proofs.«01_k».proof.Proof.Gen.ClippedReferenceIdeal.Run
public import proofs.«01_k».proof.Proof.Run
public import proofs.«01_k».proof.Proof.Value
public import proofs.«01_k».proof.Proof.Whole

@[expose] public section

noncomputable section

namespace Cert.Proof

open Idealize.ShloMosaic Idealize.SL.Sem Cert.KernelIdeal.Ring

/-- The kernel over any float values: it keeps its operands and every counter ends at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1.1 c (0 : Fin 2)).trans (finalA_0 m ρ c), (h.1.1 c (1 : Fin 2)).trans (finalA_1 m ρ c)⟩, h.2⟩)
    (run_main m ρ)

/-- The two printings of the kernel have one body table: label by label it is the same body. -/
theorem same_bodies {F : FTy → Type} [FloatOps F] : Cert.Kernel.defs₀ (F := F) = Cert.KernelIdeal.defs₀ (F := F) := by
  unfold Cert.Kernel.defs₀ Cert.KernelIdeal.defs₀
  refine congrArg Defs.onTc ?_
  funext a x
  rcases a with ⟨_ | a, ha⟩
  · rfl
  · exact absurd ha (Nat.not_lt.2 (Nat.le_add_left _ _))

/-- So the tables with the pipeline's labels are one, too. -/
theorem same_defs {F : FTy → Type} [FloatOps F] : Cert.Kernel.defs (F := F) = Cert.KernelIdeal.defs (F := F) :=
  congrArg (Pipeline.defs Cert.KernelIdeal.pcfgs) same_bodies

/-- The kernel over the machine's words. -/
theorem frame_kernel : Cert.quiescent_Kernel := fun m ρ _ => by
  rw [same_defs]
  exact frame_any (F := Bits) m ρ

/-- The kernel over the extended reals. -/
theorem frame_kernelIdeal : Cert.quiescent_KernelIdeal := fun m ρ _ => frame_any (F := Ideal) m ρ

/-- The reference is a straight line of host operations and has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result, on every device, is the reference's: the gate of the product of the whole arrays. -/
theorem algebraic : Cert.algebraic_KernelIdeal_ReferenceIdeal := by
  intro m g m' g' _ hag
  refine ⟨full (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1.1 c (0 : Fin 2)).trans (finalA_0 m g c), (h.1.1 c (1 : Fin 2)).trans (finalA_1 m g c)⟩)
      (run_main (F := Ideal) m g)
    funext z
    exact (result_eq m r.2.mem c (h.1.2 c) z).trans (congrArg gate
      (sum_own _ _ _ _ (fun d => (X₀_eq m d).trans (hag d).1) (fun d => (W₀_eq m d).trans (hag d).2) _ _))
  · refine (θ_run Cert.ReferenceIdeal.defs _ _).mono (fun r h => ⟨(h 0).1.trans (Cert.ReferenceIdeal.Value.ref_full _ _), (h 0).2⟩)
      (Cert.ReferenceIdeal.Value.run (F := Ideal) m' g')

/-- The reference with the clip is a straight line of host operations, too. -/
theorem frame_clippedReferenceIdeal : Cert.quiescent_ClippedReferenceIdeal := fun m ρ _ =>
  (θ_run Cert.ClippedReferenceIdeal.defs _ _).mono
    (fun r h => ⟨fun c => (h c).2, sem_eq_zero_of_no_sems (by decide) r.2⟩)
    (Cert.ClippedReferenceIdeal.Value.run (F := Ideal) m ρ)

/-- Where the product lies within the clip's bounds, the kernel's result is that of the reference with the clip. -/
theorem algebraic_clipped : Cert.algebraic_KernelIdeal_ClippedReferenceIdeal_on_within_clip := by
  intro m g m' g' _ hag
  refine ⟨full (m' (((0 : Dev Cert.ClippedReferenceIdeal.nD).tc : Thread Cert.ClippedReferenceIdeal.nD Cert.ClippedReferenceIdeal.τ).loc Cert.ClippedReferenceIdeal.main_arg0))
    (m' (((0 : Dev Cert.ClippedReferenceIdeal.nD).tc : Thread Cert.ClippedReferenceIdeal.nD Cert.ClippedReferenceIdeal.τ).loc Cert.ClippedReferenceIdeal.main_arg1)), ?_, ?_⟩
  · refine (θ_run Cert.KernelIdeal.defs _ _).mono (fun r h c => ⟨fun z _ => ?_, (h.1.1 c (0 : Fin 2)).trans (finalA_0 m g c), (h.1.1 c (1 : Fin 2)).trans (finalA_1 m g c)⟩)
      (run_main (F := Ideal) m g)
    exact (result_eq m r.2.mem c (h.1.2 c) z).trans (congrArg gate
      (sum_own _ _ _ _ (fun d => (X₀_eq m d).trans (hag d).1) (fun d => (W₀_eq m d).trans (hag d).2) _ _))
  · refine (θ_run Cert.ClippedReferenceIdeal.defs _ _).mono (fun r h => ⟨fun z hz => ?_, (h 0).2⟩)
      (Cert.ClippedReferenceIdeal.Value.run (F := Ideal) m' g')
    obtain ⟨a, b, rfl⟩ : ∃ (a : Fin 4096) (b : Fin 2048), z = ix2 a b := ⟨z 0, z 1, eq_ix2 z⟩
    exact (congrFun (h 0).1 _).trans (Cert.ClippedReferenceIdeal.Value.ref_full _ _ a b hz)

theorem claim : Cert.Claim :=
  ⟨Cert.Kernel.Gen.facts, Cert.KernelIdeal.Gen.facts, Cert.ReferenceIdeal.Gen.facts, Cert.ClippedReferenceIdeal.Gen.facts, Cert.On_within_clip.facts,
    frame_kernel, frame_kernelIdeal, frame_referenceIdeal, frame_clippedReferenceIdeal, trivial, algebraic, algebraic_clipped⟩

end Cert.Proof

end
